-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S7x512x512 : Shape := ⟨3, ![7, 512, 512]⟩
abbrev S3x256x8192 : Shape := ⟨3, ![3, 256, 8192]⟩
abbrev S3 : Shape := ⟨1, ![3]⟩
abbrev S7 : Shape := ⟨1, ![7]⟩
abbrev S_ : Shape := ⟨0, ![]⟩
abbrev S1x256x8192 : Shape := ⟨3, ![1, 256, 8192]⟩
abbrev S256x8192 : Shape := ⟨2, ![256, 8192]⟩
abbrev S1x512x512 : Shape := ⟨3, ![1, 512, 512]⟩
abbrev S512x512 : Shape := ⟨2, ![512, 512]⟩
abbrev S512x256 : Shape := ⟨2, ![512, 256]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S4096x512, .fp8e4m3⟩
  | .local _ .vmem, ⟨3, _⟩ => ⟨S7x512x512, .fp8e4m3⟩
  | .local _ .vmem, ⟨4, _⟩ => ⟨S3x256x8192, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) (c0_i32_6 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let c0_i32_1 : BitVec 32 := 0#32
  let v4 : BitVec 1 := Scalar.cmpi .eq c8_i32_0 c0_i32_1
  let c1_i32_2 : BitVec 32 := 1#32
  let v5 : BitVec 32 := Scalar.select v4 c1_i32_2 c8_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let v15 : BitVec 32 := Scalar.addi v14 c0_i32_6
  let c0_i32_11 : BitVec 32 := 0#32
  ![v15.toNat, 0]
def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v64 : BitVec 32 := Scalar.addi v2 c1_i32_41
  let c8_i32_42 : BitVec 32 := 8#32
  let c0_i32_43 : BitVec 32 := 0#32
  let v65 : BitVec 1 := Scalar.cmpi .eq c8_i32_42 c0_i32_43
  let c1_i32_44 : BitVec 32 := 1#32
  let v66 : BitVec 32 := Scalar.select v65 c1_i32_44 c8_i32_42
  let v67 : BitVec 32 := Scalar.remsi v64 v66
  let c0_i32_46 : BitVec 32 := 0#32
  let v69 : BitVec 1 := Scalar.cmpi .slt v67 c0_i32_46
  let c0_i32_47 : BitVec 32 := 0#32
  let v70 : BitVec 1 := Scalar.cmpi .slt v66 c0_i32_47
  let v71 : BitVec 1 := Scalar.xori v69 v70
  let c0_i32_45 : BitVec 32 := 0#32
  let v68 : BitVec 1 := Scalar.cmpi .ne v67 c0_i32_45
  let v72 : BitVec 1 := Scalar.andi v71 v68
  let v73 : BitVec 32 := Scalar.addi v67 v66
  let v74 : BitVec 32 := Scalar.select v72 v73 v67
  let c1_i32_49 : BitVec 32 := 1#32
  let v75 : BitVec 32 := Scalar.muli v74 c1_i32_49
  let v76 : BitVec 32 := Scalar.addi c0_i32_50 v75
  v76.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_51 : BitVec 32 := 2#32
  let v77 : BitVec 32 := Scalar.addi v2 c2_i32_51
  let c8_i32_52 : BitVec 32 := 8#32
  let c0_i32_53 : BitVec 32 := 0#32
  let v78 : BitVec 1 := Scalar.cmpi .eq c8_i32_52 c0_i32_53
  let c1_i32_54 : BitVec 32 := 1#32
  let v79 : BitVec 32 := Scalar.select v78 c1_i32_54 c8_i32_52
  let v80 : BitVec 32 := Scalar.remsi v77 v79
  let c0_i32_56 : BitVec 32 := 0#32
  let v82 : BitVec 1 := Scalar.cmpi .slt v80 c0_i32_56
  let c0_i32_57 : BitVec 32 := 0#32
  let v83 : BitVec 1 := Scalar.cmpi .slt v79 c0_i32_57
  let v84 : BitVec 1 := Scalar.xori v82 v83
  let c0_i32_55 : BitVec 32 := 0#32
  let v81 : BitVec 1 := Scalar.cmpi .ne v80 c0_i32_55
  let v85 : BitVec 1 := Scalar.andi v84 v81
  let v86 : BitVec 32 := Scalar.addi v80 v79
  let v87 : BitVec 32 := Scalar.select v85 v86 v80
  let c1_i32_59 : BitVec 32 := 1#32
  let v88 : BitVec 32 := Scalar.muli v87 c1_i32_59
  let v89 : BitVec 32 := Scalar.addi c0_i32_60 v88
  v89.toNat
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v90 : BitVec 32 := Scalar.addi v2 c3_i32
  let c8_i32_61 : BitVec 32 := 8#32
  let c0_i32_62 : BitVec 32 := 0#32
  let v91 : BitVec 1 := Scalar.cmpi .eq c8_i32_61 c0_i32_62
  let c1_i32_63 : BitVec 32 := 1#32
  let v92 : BitVec 32 := Scalar.select v91 c1_i32_63 c8_i32_61
  let v93 : BitVec 32 := Scalar.remsi v90 v92
  let c0_i32_65 : BitVec 32 := 0#32
  let v95 : BitVec 1 := Scalar.cmpi .slt v93 c0_i32_65
  let c0_i32_66 : BitVec 32 := 0#32
  let v96 : BitVec 1 := Scalar.cmpi .slt v92 c0_i32_66
  let v97 : BitVec 1 := Scalar.xori v95 v96
  let c0_i32_64 : BitVec 32 := 0#32
  let v94 : BitVec 1 := Scalar.cmpi .ne v93 c0_i32_64
  let v98 : BitVec 1 := Scalar.andi v97 v94
  let v99 : BitVec 32 := Scalar.addi v93 v92
  let v100 : BitVec 32 := Scalar.select v98 v99 v93
  let c1_i32_68 : BitVec 32 := 1#32
  let v101 : BitVec 32 := Scalar.muli v100 c1_i32_68
  let v102 : BitVec 32 := Scalar.addi c0_i32_69 v101
  v102.toNat
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v103 : BitVec 32 := Scalar.addi v2 c4_i32
  let c8_i32_70 : BitVec 32 := 8#32
  let c0_i32_71 : BitVec 32 := 0#32
  let v104 : BitVec 1 := Scalar.cmpi .eq c8_i32_70 c0_i32_71
  let c1_i32_72 : BitVec 32 := 1#32
  let v105 : BitVec 32 := Scalar.select v104 c1_i32_72 c8_i32_70
  let v106 : BitVec 32 := Scalar.remsi v103 v105
  let c0_i32_74 : BitVec 32 := 0#32
  let v108 : BitVec 1 := Scalar.cmpi .slt v106 c0_i32_74
  let c0_i32_75 : BitVec 32 := 0#32
  let v109 : BitVec 1 := Scalar.cmpi .slt v105 c0_i32_75
  let v110 : BitVec 1 := Scalar.xori v108 v109
  let c0_i32_73 : BitVec 32 := 0#32
  let v107 : BitVec 1 := Scalar.cmpi .ne v106 c0_i32_73
  let v111 : BitVec 1 := Scalar.andi v110 v107
  let v112 : BitVec 32 := Scalar.addi v106 v105
  let v113 : BitVec 32 := Scalar.select v111 v112 v106
  let c1_i32_77 : BitVec 32 := 1#32
  let v114 : BitVec 32 := Scalar.muli v113 c1_i32_77
  let v115 : BitVec 32 := Scalar.addi c0_i32_78 v114
  v115.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v116 : BitVec 32 := Scalar.addi v2 c5_i32
  let c8_i32_79 : BitVec 32 := 8#32
  let c0_i32_80 : BitVec 32 := 0#32
  let v117 : BitVec 1 := Scalar.cmpi .eq c8_i32_79 c0_i32_80
  let c1_i32_81 : BitVec 32 := 1#32
  let v118 : BitVec 32 := Scalar.select v117 c1_i32_81 c8_i32_79
  let v119 : BitVec 32 := Scalar.remsi v116 v118
  let c0_i32_83 : BitVec 32 := 0#32
  let v121 : BitVec 1 := Scalar.cmpi .slt v119 c0_i32_83
  let c0_i32_84 : BitVec 32 := 0#32
  let v122 : BitVec 1 := Scalar.cmpi .slt v118 c0_i32_84
  let v123 : BitVec 1 := Scalar.xori v121 v122
  let c0_i32_82 : BitVec 32 := 0#32
  let v120 : BitVec 1 := Scalar.cmpi .ne v119 c0_i32_82
  let v124 : BitVec 1 := Scalar.andi v123 v120
  let v125 : BitVec 32 := Scalar.addi v119 v118
  let v126 : BitVec 32 := Scalar.select v124 v125 v119
  let c1_i32_86 : BitVec 32 := 1#32
  let v127 : BitVec 32 := Scalar.muli v126 c1_i32_86
  let v128 : BitVec 32 := Scalar.addi c0_i32_87 v127
  v128.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v129 : BitVec 32 := Scalar.addi v2 c6_i32
  let c8_i32_88 : BitVec 32 := 8#32
  let c0_i32_89 : BitVec 32 := 0#32
  let v130 : BitVec 1 := Scalar.cmpi .eq c8_i32_88 c0_i32_89
  let c1_i32_90 : BitVec 32 := 1#32
  let v131 : BitVec 32 := Scalar.select v130 c1_i32_90 c8_i32_88
  let v132 : BitVec 32 := Scalar.remsi v129 v131
  let c0_i32_92 : BitVec 32 := 0#32
  let v134 : BitVec 1 := Scalar.cmpi .slt v132 c0_i32_92
  let c0_i32_93 : BitVec 32 := 0#32
  let v135 : BitVec 1 := Scalar.cmpi .slt v131 c0_i32_93
  let v136 : BitVec 1 := Scalar.xori v134 v135
  let c0_i32_91 : BitVec 32 := 0#32
  let v133 : BitVec 1 := Scalar.cmpi .ne v132 c0_i32_91
  let v137 : BitVec 1 := Scalar.andi v136 v133
  let v138 : BitVec 32 := Scalar.addi v132 v131
  let v139 : BitVec 32 := Scalar.select v137 v138 v132
  let c1_i32_95 : BitVec 32 := 1#32
  let v140 : BitVec 32 := Scalar.muli v139 c1_i32_95
  let v141 : BitVec 32 := Scalar.addi c0_i32_96 v140
  v141.toNat
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v142 : BitVec 32 := Scalar.addi v2 c7_i32
  let c8_i32_97 : BitVec 32 := 8#32
  let c0_i32_98 : BitVec 32 := 0#32
  let v143 : BitVec 1 := Scalar.cmpi .eq c8_i32_97 c0_i32_98
  let c1_i32_99 : BitVec 32 := 1#32
  let v144 : BitVec 32 := Scalar.select v143 c1_i32_99 c8_i32_97
  let v145 : BitVec 32 := Scalar.remsi v142 v144
  let c0_i32_101 : BitVec 32 := 0#32
  let v147 : BitVec 1 := Scalar.cmpi .slt v145 c0_i32_101
  let c0_i32_102 : BitVec 32 := 0#32
  let v148 : BitVec 1 := Scalar.cmpi .slt v144 c0_i32_102
  let v149 : BitVec 1 := Scalar.xori v147 v148
  let c0_i32_100 : BitVec 32 := 0#32
  let v146 : BitVec 1 := Scalar.cmpi .ne v145 c0_i32_100
  let v150 : BitVec 1 := Scalar.andi v149 v146
  let v151 : BitVec 32 := Scalar.addi v145 v144
  let v152 : BitVec 32 := Scalar.select v150 v151 v145
  let c1_i32_104 : BitVec 32 := 1#32
  let v153 : BitVec 32 := Scalar.muli v152 c1_i32_104
  let v154 : BitVec 32 := Scalar.addi c0_i32_105 v153
  v154.toNat
def k0_off2 (d0 : Dev nD) (c1_i32_107 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v155 : BitVec 32 := Scalar.addi v2 c1_i32_107
  let c8_i32_108 : BitVec 32 := 8#32
  let c0_i32_109 : BitVec 32 := 0#32
  let v156 : BitVec 1 := Scalar.cmpi .eq c8_i32_108 c0_i32_109
  let c1_i32_110 : BitVec 32 := 1#32
  let v157 : BitVec 32 := Scalar.select v156 c1_i32_110 c8_i32_108
  let v158 : BitVec 32 := Scalar.remsi v155 v157
  let c0_i32_112 : BitVec 32 := 0#32
  let v160 : BitVec 1 := Scalar.cmpi .slt v158 c0_i32_112
  let c0_i32_113 : BitVec 32 := 0#32
  let v161 : BitVec 1 := Scalar.cmpi .slt v157 c0_i32_113
  let v162 : BitVec 1 := Scalar.xori v160 v161
  let c0_i32_111 : BitVec 32 := 0#32
  let v159 : BitVec 1 := Scalar.cmpi .ne v158 c0_i32_111
  let v163 : BitVec 1 := Scalar.andi v162 v159
  let v164 : BitVec 32 := Scalar.addi v158 v157
  let v165 : BitVec 32 := Scalar.select v163 v164 v158
  let c512_i32_114 : BitVec 32 := 512#32
  let v166 : BitVec 32 := Scalar.muli v165 c512_i32_114
  let c0_i32_122 : BitVec 32 := 0#32
  ![v166.toNat, 0]
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_107 : BitVec 32 := 1#32
  let v155 : BitVec 32 := Scalar.addi v2 c1_i32_107
  let c8_i32_108 : BitVec 32 := 8#32
  let c0_i32_109 : BitVec 32 := 0#32
  let v156 : BitVec 1 := Scalar.cmpi .eq c8_i32_108 c0_i32_109
  let c1_i32_110 : BitVec 32 := 1#32
  let v157 : BitVec 32 := Scalar.select v156 c1_i32_110 c8_i32_108
  let v158 : BitVec 32 := Scalar.remsi v155 v157
  let c0_i32_112 : BitVec 32 := 0#32
  let v160 : BitVec 1 := Scalar.cmpi .slt v158 c0_i32_112
  let c0_i32_113 : BitVec 32 := 0#32
  let v161 : BitVec 1 := Scalar.cmpi .slt v157 c0_i32_113
  let v162 : BitVec 1 := Scalar.xori v160 v161
  let c0_i32_111 : BitVec 32 := 0#32
  let v159 : BitVec 1 := Scalar.cmpi .ne v158 c0_i32_111
  let v163 : BitVec 1 := Scalar.andi v162 v159
  let v164 : BitVec 32 := Scalar.addi v158 v157
  let v165 : BitVec 32 := Scalar.select v163 v164 v158
  let c1_i32_118 : BitVec 32 := 1#32
  let v167 : BitVec 32 := Scalar.muli v165 c1_i32_118
  let v168 : BitVec 32 := Scalar.addi c0_i32_119 v167
  v168.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_123 : BitVec 32 := 2#32
  let v176 : BitVec 32 := Scalar.addi v2 c2_i32_123
  let c8_i32_124 : BitVec 32 := 8#32
  let c0_i32_125 : BitVec 32 := 0#32
  let v177 : BitVec 1 := Scalar.cmpi .eq c8_i32_124 c0_i32_125
  let c1_i32_126 : BitVec 32 := 1#32
  let v178 : BitVec 32 := Scalar.select v177 c1_i32_126 c8_i32_124
  let v179 : BitVec 32 := Scalar.remsi v176 v178
  let c0_i32_128 : BitVec 32 := 0#32
  let v181 : BitVec 1 := Scalar.cmpi .slt v179 c0_i32_128
  let c0_i32_129 : BitVec 32 := 0#32
  let v182 : BitVec 1 := Scalar.cmpi .slt v178 c0_i32_129
  let v183 : BitVec 1 := Scalar.xori v181 v182
  let c0_i32_127 : BitVec 32 := 0#32
  let v180 : BitVec 1 := Scalar.cmpi .ne v179 c0_i32_127
  let v184 : BitVec 1 := Scalar.andi v183 v180
  let v185 : BitVec 32 := Scalar.addi v179 v178
  let v186 : BitVec 32 := Scalar.select v184 v185 v179
  let c1_i32_134 : BitVec 32 := 1#32
  let v188 : BitVec 32 := Scalar.muli v186 c1_i32_134
  let v189 : BitVec 32 := Scalar.addi c0_i32_135 v188
  v189.toNat
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_139 : BitVec 32 := 3#32
  let v197 : BitVec 32 := Scalar.addi v2 c3_i32_139
  let c8_i32_140 : BitVec 32 := 8#32
  let c0_i32_141 : BitVec 32 := 0#32
  let v198 : BitVec 1 := Scalar.cmpi .eq c8_i32_140 c0_i32_141
  let c1_i32_142 : BitVec 32 := 1#32
  let v199 : BitVec 32 := Scalar.select v198 c1_i32_142 c8_i32_140
  let v200 : BitVec 32 := Scalar.remsi v197 v199
  let c0_i32_144 : BitVec 32 := 0#32
  let v202 : BitVec 1 := Scalar.cmpi .slt v200 c0_i32_144
  let c0_i32_145 : BitVec 32 := 0#32
  let v203 : BitVec 1 := Scalar.cmpi .slt v199 c0_i32_145
  let v204 : BitVec 1 := Scalar.xori v202 v203
  let c0_i32_143 : BitVec 32 := 0#32
  let v201 : BitVec 1 := Scalar.cmpi .ne v200 c0_i32_143
  let v205 : BitVec 1 := Scalar.andi v204 v201
  let v206 : BitVec 32 := Scalar.addi v200 v199
  let v207 : BitVec 32 := Scalar.select v205 v206 v200
  let c1_i32_150 : BitVec 32 := 1#32
  let v209 : BitVec 32 := Scalar.muli v207 c1_i32_150
  let v210 : BitVec 32 := Scalar.addi c0_i32_151 v209
  v210.toNat
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v218 : BitVec 32 := Scalar.addi v2 c4_i32_155
  let c8_i32_156 : BitVec 32 := 8#32
  let c0_i32_157 : BitVec 32 := 0#32
  let v219 : BitVec 1 := Scalar.cmpi .eq c8_i32_156 c0_i32_157
  let c1_i32_158 : BitVec 32 := 1#32
  let v220 : BitVec 32 := Scalar.select v219 c1_i32_158 c8_i32_156
  let v221 : BitVec 32 := Scalar.remsi v218 v220
  let c0_i32_160 : BitVec 32 := 0#32
  let v223 : BitVec 1 := Scalar.cmpi .slt v221 c0_i32_160
  let c0_i32_161 : BitVec 32 := 0#32
  let v224 : BitVec 1 := Scalar.cmpi .slt v220 c0_i32_161
  let v225 : BitVec 1 := Scalar.xori v223 v224
  let c0_i32_159 : BitVec 32 := 0#32
  let v222 : BitVec 1 := Scalar.cmpi .ne v221 c0_i32_159
  let v226 : BitVec 1 := Scalar.andi v225 v222
  let v227 : BitVec 32 := Scalar.addi v221 v220
  let v228 : BitVec 32 := Scalar.select v226 v227 v221
  let c1_i32_166 : BitVec 32 := 1#32
  let v230 : BitVec 32 := Scalar.muli v228 c1_i32_166
  let v231 : BitVec 32 := Scalar.addi c0_i32_167 v230
  v231.toNat
def k0_dev12 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_171 : BitVec 32 := 5#32
  let v239 : BitVec 32 := Scalar.addi v2 c5_i32_171
  let c8_i32_172 : BitVec 32 := 8#32
  let c0_i32_173 : BitVec 32 := 0#32
  let v240 : BitVec 1 := Scalar.cmpi .eq c8_i32_172 c0_i32_173
  let c1_i32_174 : BitVec 32 := 1#32
  let v241 : BitVec 32 := Scalar.select v240 c1_i32_174 c8_i32_172
  let v242 : BitVec 32 := Scalar.remsi v239 v241
  let c0_i32_176 : BitVec 32 := 0#32
  let v244 : BitVec 1 := Scalar.cmpi .slt v242 c0_i32_176
  let c0_i32_177 : BitVec 32 := 0#32
  let v245 : BitVec 1 := Scalar.cmpi .slt v241 c0_i32_177
  let v246 : BitVec 1 := Scalar.xori v244 v245
  let c0_i32_175 : BitVec 32 := 0#32
  let v243 : BitVec 1 := Scalar.cmpi .ne v242 c0_i32_175
  let v247 : BitVec 1 := Scalar.andi v246 v243
  let v248 : BitVec 32 := Scalar.addi v242 v241
  let v249 : BitVec 32 := Scalar.select v247 v248 v242
  let c1_i32_182 : BitVec 32 := 1#32
  let v251 : BitVec 32 := Scalar.muli v249 c1_i32_182
  let v252 : BitVec 32 := Scalar.addi c0_i32_183 v251
  v252.toNat
def k0_dev13 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_187 : BitVec 32 := 6#32
  let v260 : BitVec 32 := Scalar.addi v2 c6_i32_187
  let c8_i32_188 : BitVec 32 := 8#32
  let c0_i32_189 : BitVec 32 := 0#32
  let v261 : BitVec 1 := Scalar.cmpi .eq c8_i32_188 c0_i32_189
  let c1_i32_190 : BitVec 32 := 1#32
  let v262 : BitVec 32 := Scalar.select v261 c1_i32_190 c8_i32_188
  let v263 : BitVec 32 := Scalar.remsi v260 v262
  let c0_i32_192 : BitVec 32 := 0#32
  let v265 : BitVec 1 := Scalar.cmpi .slt v263 c0_i32_192
  let c0_i32_193 : BitVec 32 := 0#32
  let v266 : BitVec 1 := Scalar.cmpi .slt v262 c0_i32_193
  let v267 : BitVec 1 := Scalar.xori v265 v266
  let c0_i32_191 : BitVec 32 := 0#32
  let v264 : BitVec 1 := Scalar.cmpi .ne v263 c0_i32_191
  let v268 : BitVec 1 := Scalar.andi v267 v264
  let v269 : BitVec 32 := Scalar.addi v263 v262
  let v270 : BitVec 32 := Scalar.select v268 v269 v263
  let c1_i32_198 : BitVec 32 := 1#32
  let v272 : BitVec 32 := Scalar.muli v270 c1_i32_198
  let v273 : BitVec 32 := Scalar.addi c0_i32_199 v272
  v273.toNat
def k0_dev14 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_203 : BitVec 32 := 7#32
  let v281 : BitVec 32 := Scalar.addi v2 c7_i32_203
  let c8_i32_204 : BitVec 32 := 8#32
  let c0_i32_205 : BitVec 32 := 0#32
  let v282 : BitVec 1 := Scalar.cmpi .eq c8_i32_204 c0_i32_205
  let c1_i32_206 : BitVec 32 := 1#32
  let v283 : BitVec 32 := Scalar.select v282 c1_i32_206 c8_i32_204
  let v284 : BitVec 32 := Scalar.remsi v281 v283
  let c0_i32_208 : BitVec 32 := 0#32
  let v286 : BitVec 1 := Scalar.cmpi .slt v284 c0_i32_208
  let c0_i32_209 : BitVec 32 := 0#32
  let v287 : BitVec 1 := Scalar.cmpi .slt v283 c0_i32_209
  let v288 : BitVec 1 := Scalar.xori v286 v287
  let c0_i32_207 : BitVec 32 := 0#32
  let v285 : BitVec 1 := Scalar.cmpi .ne v284 c0_i32_207
  let v289 : BitVec 1 := Scalar.andi v288 v285
  let v290 : BitVec 32 := Scalar.addi v284 v283
  let v291 : BitVec 32 := Scalar.select v289 v290 v284
  let c1_i32_214 : BitVec 32 := 1#32
  let v293 : BitVec 32 := Scalar.muli v291 c1_i32_214
  let v294 : BitVec 32 := Scalar.addi c0_i32_215 v293
  v294.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_233 : BitVec 32 := 512#32
  let v320 : BitVec 32 := Scalar.muli v2 c512_i32_233
  let v321 : Index := Scalar.indexCast v320
  let c0_234 : Index := 0#32
  ![v321.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_268 : BitVec 32 := 512#32
  let v364 : BitVec 32 := Scalar.muli v2 c512_i32_268
  let v365 : Index := Scalar.indexCast v364
  let c256 : Index := 256#32
  ![v365.toNat, 256]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Proto.lean ====
/-
# The exchange's protocol

Eight devices in a ring of offsets. Device `c` casts its block of `x` to the narrow format, tells every other device
that its landing buffer is free, waits for the seven others' word, and copies to each device `d` the row block `d` of
its own cast `x`; slot `j` of a device's landing buffer receives the block of the device `j + 1` places before it.

* The barrier cell of `c`: seven duties, one unit each. Duty `j` is paid by the device `j + 1` places after `c` and
  hands `c` that device's landing slot `j`.
* The receive cell `j` of `c`: one duty, the slot's credit, paid by the copy of the device `j + 1` places before `c`;
  it hands `c` its own landing slot `j` at the sender's row block `c`.
* The send cell `j` of `c`: one duty, the slot's credit, paid by `c`'s own copy `j`; it hands `c` the rows of the cast
  block back.

A device owes all seven signals and all seven copies at the start; barrier cells lie below receive cells.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueLayout
public import Idealize.ShloMosaic.Lib.Tactic

@[expose] public section

set_option maxRecDepth 16384

noncomputable section

namespace Cert.KProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, the exchange's, and the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds live. -/
def ER : Emb UB (MT nD τ sig Unit (Elt F) ℕ UU ℕ) := (Emb.inl : Emb UB (UB × Counters)).trans embR

instance ER_landsIn : (ER (F := F)).LandsIn (upEmb : UEmb _ 𝕄) := by unfold ER; infer_instance

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The devices -/

/-- The device `j + 1` places after `c`. -/
def pl (c : Dev nD) (j : Fin 7) : Dev nD := ⟨(c.val + (j.val + 1)) % 8, Nat.mod_lt _ (by decide)⟩
/-- The device `j + 1` places before `c`. -/
def mi (c : Dev nD) (j : Fin 7) : Dev nD := ⟨(c.val + (7 - j.val)) % 8, Nat.mod_lt _ (by decide)⟩

theorem mi_pl (c : Dev nD) (j : Fin 7) : mi (pl c j) j = c := by revert c j; decide
theorem pl_mi (c : Dev nD) (j : Fin 7) : pl (mi c j) j = c := by revert c j; decide
theorem pl_inj (c : Dev nD) : Function.Injective (pl c) := by revert c; decide
theorem pl_ne (c : Dev nD) (j : Fin 7) : pl c j ≠ c := by revert c j; decide
theorem univ_eq (c : Dev nD) : (Finset.univ : Finset (Dev nD)) = insert c (Finset.univ.map ⟨pl c, pl_inj c⟩) := by
  revert c; decide

/-- Going round by `j + 1` places. -/
def around (j : Fin 7) : Dev nD ≃ Dev nD := ⟨fun c => pl c j, fun c => mi c j, fun c => mi_pl c j, fun c => pl_mi c j⟩

/-- The devices the seven signals name, -/
theorem devs_bar (c : Dev nD) : k0_dev1 c = (mi c 6).val ∧ k0_dev2 c = (mi c 5).val ∧ k0_dev3 c = (mi c 4).val
    ∧ k0_dev4 c = (mi c 3).val ∧ k0_dev5 c = (mi c 2).val ∧ k0_dev6 c = (mi c 1).val ∧ k0_dev7 c = (mi c 0).val := by
  revert c; decide +kernel
/-- the seven copies name, -/
theorem devs_copy (c : Dev nD) : k0_dev8 c = (pl c 0).val ∧ k0_dev9 c = (pl c 1).val ∧ k0_dev10 c = (pl c 2).val
    ∧ k0_dev11 c = (pl c 3).val ∧ k0_dev12 c = (pl c 4).val ∧ k0_dev13 c = (pl c 5).val ∧ k0_dev14 c = (pl c 6).val := by
  revert c; decide +kernel
/-- and the rows each copy takes: the block of the device it goes to. -/
theorem off2_eq (c : Dev nD) (j : Fin 7) : k0_off2 c (BitVec.ofNat 32 (1 + j.val)) = ![512 * (pl c j).val, 0] := by
  revert c j; decide +kernel
/-- The rows of `w` a step takes: half `s` of the block of the device `h` places before `c`. -/
theorem off1_eq (c : Dev nD) (h : Fin 8) (s : Fin 2) :
    k0_off1 c (BitVec.ofNat 32 h.val) (BitVec.ofNat 32 (256 * s.val)) = ![512 * ((c.val + (8 - h.val)) % 8) + 256 * s.val, 0] := by
  revert c h s; decide +kernel

/-! ## The memrefs and cells -/

abbrev xM : Memref sig .tc .vmem S4096x512 .f32 := Memref.whole cc0_stg0_0
abbrev wM : Memref sig .tc .hbm S4096x8192 .f32 := Memref.whole main_arg1
abbrev oM : Memref sig .tc .vmem S512x8192 .f32 := Memref.whole cc0_stg3_0
abbrev eM : Memref sig .tc .vmem S4096x512 .fp8e4m3 := Memref.whole cc0_scratch0
abbrev cM : Memref sig .tc .vmem S7x512x512 .fp8e4m3 := Memref.whole cc0_scratch1
abbrev bM : Memref sig .tc .vmem S3x256x8192 .f32 := Memref.whole cc0_scratch2

theorem cSlot_inb (j : Fin 7) (a : Fin 3) : (![j.val, 0, 0] : Fin 3 → ℕ) a + S1x512x512.size a ≤ S7x512x512.size a := by
  revert j a; decide
theorem bSlot_inb (s : Fin 3) (a : Fin 3) : (![s.val, 0, 0] : Fin 3 → ℕ) a + S1x256x8192.size a ≤ S3x256x8192.size a := by
  revert s a; decide
theorem eBlk_inb (d : Dev nD) (a : Fin 2) : (![512 * d.val, 0] : Fin 2 → ℕ) a + S512x512.size a ≤ S4096x512.size a := by
  revert d a; decide
theorem sem7_inb (j : Fin 7) (a : Fin 1) : (![j.val] : Fin 1 → ℕ) a + S1.size a ≤ S7.size a := by
  revert j a; decide
theorem sem3_inb (s : Fin 3) (a : Fin 1) : (![s.val] : Fin 1 → ℕ) a + S1.size a ≤ S3.size a := by
  revert s a; decide

/-- The rectangles of a landing slot, of a slot of the `w` ring, of a row block of the cast `x`. -/
abbrev cR (j : Fin 7) : Rect S7x512x512 := Rect.unit (s := S7x512x512) ![j.val, 0, 0] S1x512x512.size (cSlot_inb j)
abbrev bR (s : Fin 3) : Rect S3x256x8192 := Rect.unit (s := S3x256x8192) ![s.val, 0, 0] S1x256x8192.size (bSlot_inb s)
abbrev eR (d : Dev nD) : Rect S4096x512 := Rect.unit (s := S4096x512) ![512 * d.val, 0] S512x512.size (eBlk_inb d)

/-- A landing slot, a slot of the `w` ring, a row block of the cast `x`, as the program names them. -/
abbrev cSlot (j : Fin 7) : Memref sig .tc .vmem S512x512 .fp8e4m3 :=
  (cM.slice (cR j) (fun _ => rfl)).squeeze S512x512 squeezes_S1x512x512_S512x512
abbrev bSlot (s : Fin 3) : Memref sig .tc .vmem S256x8192 .f32 :=
  (bM.slice (bR s) (fun _ => rfl)).squeeze S256x8192 squeezes_S1x256x8192_S256x8192
abbrev eBlk (d : Dev nD) : Memref sig .tc .vmem S512x512 .fp8e4m3 := eM.slice (eR d) (fun _ => rfl)

abbrev barS : Sem sig := (SemArray.scalar (sig.barrier 0 rfl) : Sems sig S_).sem
abbrev wS (s : Fin 3) : DmaSem sig :=
  ((cc0_scratch3.slice (Rect.unit (s := S3) ![s.val] S1.size (sem3_inb s))).squeeze S_ squeezes_S1_S_).sem
abbrev sendS (j : Fin 7) : DmaSem sig :=
  ((cc0_scratch4.slice (Rect.unit (s := S7) ![j.val] S1.size (sem7_inb j))).squeeze S_ squeezes_S1_S_).sem
abbrev recvS (j : Fin 7) : DmaSem sig :=
  ((cc0_scratch5.slice (Rect.unit (s := S7) ![j.val] S1.size (sem7_inb j))).squeeze S_ squeezes_S1_S_).sem

abbrev barCell (c : Dev nD) : GSem nD τ sig := ((c : Thread nD τ), .reg barS)
abbrev wCell (c : Dev nD) (s : Fin 3) : GSem nD τ sig := ((c : Thread nD τ), .dma (wS s))
abbrev sendCell (c : Dev nD) (j : Fin 7) : GSem nD τ sig := ((c : Thread nD τ), .dma (sendS j))
abbrev recvCell (c : Dev nD) (j : Fin 7) : GSem nD τ sig := ((c : Thread nD τ), .dma (recvS j))

/-- A landing slot's credit. -/
abbrev N : ℕ := (cSlot 0).view.dmaCredit
theorem N_pos : 0 < N := View.dmaCredit_pos _ (by decide)

/-! ## Contents -/

/-- Device `c`'s block of `x`, as the window stages it. -/
def xstg (c : Dev nD) : (cc0_stg0_0 : Ref sig .tc).ty.Contents (Elt F) :=
  (win0_0.blk (0 : Fin 1)).view.read (Elt F) ((s₀ m ρ).mem ((c : Thread nD τ).loc main_arg0))

/-- The block cast to the narrow format. -/
def e8 (c : Dev nD) : (cc0_scratch0 : Ref sig .tc).ty.Contents (Elt F) := k0_pay1 (xstg m ρ c)

/-- The landing buffer of `c` when everything has landed: slot `k` holds row block `c` of the cast block of the device
    `k + 1` places before. -/
def cVal (c : Dev nD) : (cc0_scratch1 : Ref sig .tc).ty.Contents (Elt F) :=
  fun i => e8 m ρ (mi c (i 0)) (ValueIdx.ix2 (⟨512 * c.val + (i 1).val, by
    have h1 : (i 1).val < 512 := (i 1).isLt
    have h2 := c.isLt
    have h3 : nD = 8 := rfl
    omega⟩ : Fin 4096) (i 2))

/-- The elements of the landing slot `j`, of the `w` slot `s`, of the cast block's row block `d`. -/
def cSet (j : Fin 7) : Finset (cc0_scratch1 : Ref sig .tc).ty.Idx := (cR j).set
def bSet (s : Fin 3) : Finset (cc0_scratch2 : Ref sig .tc).ty.Idx := (bR s).set
def eSet (d : Dev nD) : Finset (cc0_scratch0 : Ref sig .tc).ty.Idx := (eR d).set

def cPts (c : Dev nD) (j : Fin 7) (f : Buf (Elt F) ((c : Thread nD τ).loc cc0_scratch1)) : sProp 𝕄 :=
  ((c : Thread nD τ).loc cc0_scratch1) ↦[cSet j]{fullShare} f
def bPts (c : Dev nD) (s : Fin 3) (f : Buf (Elt F) ((c : Thread nD τ).loc cc0_scratch2)) : sProp 𝕄 :=
  ((c : Thread nD τ).loc cc0_scratch2) ↦[bSet s]{fullShare} f
def ePts (c d : Dev nD) (f : Buf (Elt F) ((c : Thread nD τ).loc cc0_scratch0)) : sProp 𝕄 :=
  ((c : Thread nD τ).loc cc0_scratch0) ↦[eSet d]{fullShare} f

instance cPts_storable (c : Dev nD) (j : Fin 7) (f) : BI.Storable (upEmb : UEmb _ 𝕄) (cPts (F := F) c j f) := by unfold cPts; infer_instance
instance ePts_storable (c d : Dev nD) (f) : BI.Storable (upEmb : UEmb _ 𝕄) (ePts (F := F) c d f) := by unfold ePts; infer_instance

theorem cSlot_set (j : Fin 7) : (cSlot j).view.set = cSet j := by
  refine (View.set_reshape _ _).trans ?_
  show ((View.whole cc0_scratch1).slice (cR j)).set = _
  rw [View.set_slice, View.emb_whole, Finset.map_refl]; rfl
theorem bSlot_set (s : Fin 3) : (bSlot s).view.set = bSet s := by
  refine (View.set_reshape _ _).trans ?_
  show ((View.whole cc0_scratch2).slice (bR s)).set = _
  rw [View.set_slice, View.emb_whole, Finset.map_refl]; rfl
theorem eBlk_set (d : Dev nD) : (eBlk d).view.set = eSet d := by
  show ((View.whole cc0_scratch0).slice (eR d)).set = _
  rw [View.set_slice, View.emb_whole, Finset.map_refl]; rfl

/-! ## The schedule -/

/-- What duty `j` of `c`'s barrier cell hands over: landing slot `j` of the device it will be copied to, and that this
    device's receive cell `j` is at its first round. -/
def barPay (c : Dev nD) (j : Fin 7) : sProp 𝕄 := iprop((∃ f, cPts (pl c j) j f) ∗ reached ER (recvCell (pl c j) j) 0)
def recvPay (c : Dev nD) (j : Fin 7) : sProp 𝕄 := cPts c j (cVal m ρ c)
def sendPay (c : Dev nD) (j : Fin 7) : sProp 𝕄 := ePts c (pl c j) (e8 m ρ c)

/-- Which of the exchange's copy semaphores a semaphore is: `(true, j)` receive `j`, `(false, j)` send `j`. -/
def role (s : SemLoc sig) : Option (Bool × Fin 7) :=
  ((List.finRange 7).flatMap fun j => [(true, j), (false, j)]).find? fun bj => decide (s = .dma (if bj.1 then recvS bj.2 else sendS bj.2))

theorem role_recv (j : Fin 7) : role (.dma (recvS j)) = some (true, j) := by revert j; decide
theorem role_send (j : Fin 7) : role (.dma (sendS j)) = some (false, j) := by revert j; decide

/-- One round each: a barrier cell has the seven duties of one unit, a send or receive cell one duty of a slot's credit. -/
def sched : Rounds.Schedule (GSem nD τ sig) (Fin 7) 𝕄 where
  duties g r := if r = 0 ∧ g.1.2 = .tc then
    (if g.2 = .reg barS then Finset.univ else match role g.2 with | some _ => {0} | none => ∅) else ∅
  unitless _ := False
  amount g _ _ := if g.2 = .reg barS then 1 else N
  payload g _ d :=
    if g.2 = .reg barS then barPay g.1.1 d else
      match role g.2 with
      | some (true, j) => recvPay m ρ g.1.1 j
      | some (false, j) => sendPay m ρ g.1.1 j
      | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched (F := F) m ρ).payload g r d) := by
  dsimp only [sched]
  unfold barPay recvPay sendPay
  (repeat' split) <;> infer_instance

section Sched
variable (c : Dev nD) (j : Fin 7)

theorem send_ne_bar : (SemLoc.dma (sendS j) : SemLoc sig) ≠ .reg barS := fun h => by cases h
theorem recv_ne_bar : (SemLoc.dma (recvS j) : SemLoc sig) ≠ .reg barS := fun h => by cases h

theorem duties_bar : (sched (F := F) m ρ).duties (barCell c) 0 = Finset.univ := by
  dsimp only [sched]; rw [if_pos ⟨rfl, rfl⟩, if_pos rfl]
theorem duties_send : (sched (F := F) m ρ).duties (sendCell c j) 0 = {0} := by
  dsimp only [sched]; rw [if_pos ⟨rfl, rfl⟩, if_neg (send_ne_bar j), role_send]
theorem duties_recv : (sched (F := F) m ρ).duties (recvCell c j) 0 = {0} := by
  dsimp only [sched]; rw [if_pos ⟨rfl, rfl⟩, if_neg (recv_ne_bar j), role_recv]
theorem duties_later (g : GSem nD τ sig) : ∀ r, 1 ≤ r → (sched (F := F) m ρ).duties g r = ∅ :=
  fun r hr => by dsimp only [sched]; rw [if_neg fun h => by omega]

theorem amount_bar (d : Fin 7) : (sched (F := F) m ρ).amount (barCell c) 0 d = 1 := by dsimp only [sched]; exact if_pos rfl
theorem amount_send (d : Fin 7) : (sched (F := F) m ρ).amount (sendCell c j) 0 d = N := by dsimp only [sched]; exact if_neg (send_ne_bar j)
theorem amount_recv (d : Fin 7) : (sched (F := F) m ρ).amount (recvCell c j) 0 d = N := by dsimp only [sched]; exact if_neg (recv_ne_bar j)

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c j) 0 = N := by
  unfold Schedule.expect Schedule.amountOf; rw [duties_send, Finset.sum_singleton, amount_send]
theorem expect_recv : (sched (F := F) m ρ).expect (recvCell c j) 0 = N := by
  unfold Schedule.expect Schedule.amountOf; rw [duties_recv, Finset.sum_singleton, amount_recv]

theorem payload_bar : (sched (F := F) m ρ).payload (barCell c) 0 j = barPay c j := by dsimp only [sched]; rw [if_pos rfl]
theorem payload_send (d : Fin 7) : (sched (F := F) m ρ).payload (sendCell c j) 0 d = sendPay m ρ c j := by
  dsimp only [sched]; rw [if_neg (send_ne_bar j), role_send]
theorem payload_recv (d : Fin 7) : (sched (F := F) m ρ).payload (recvCell c j) 0 d = recvPay m ρ c j := by
  dsimp only [sched]; rw [if_neg (recv_ne_bar j), role_recv]

theorem rest_bar : bigSep ((sched (F := F) m ρ).duties (barCell c) 0 \ ∅) (fun d => (sched (F := F) m ρ).payload (barCell c) 0 d)
    = bigSep Finset.univ fun d => barPay (F := F) c d := by
  rw [Finset.sdiff_empty, duties_bar]; exact bigSep_congr fun d _ => payload_bar m ρ c d
theorem rest_send : bigSep ((sched (F := F) m ρ).duties (sendCell c j) 0 \ ∅) (fun d => (sched (F := F) m ρ).payload (sendCell c j) 0 d)
    = sendPay m ρ c j := by
  rw [Finset.sdiff_empty, duties_send, bigSep_singleton, payload_send]
theorem rest_recv : bigSep ((sched (F := F) m ρ).duties (recvCell c j) 0 \ ∅) (fun d => (sched (F := F) m ρ).payload (recvCell c j) 0 d)
    = recvPay m ρ c j := by
  rw [Finset.sdiff_empty, duties_recv, bigSep_singleton, payload_recv]

end Sched

/-! ## What each core owes at launch; the levels -/

/-- Still owed once the copies `j, j + 1, … 6` are all that is left. -/
def oRecv (c : Dev nD) : ℕ → CellTallies nD τ sig Unit
  | 0 => 0
  | n + 1 => oRecv c n + (if h : n < 7 then tallyAt (recvCell (pl c (Fin.rev ⟨n, h⟩)) (Fin.rev ⟨n, h⟩)) () N else 0)
/-- All seven copies, and the signals to the devices `1, … n` places before. -/
def oBar (c : Dev nD) : ℕ → CellTallies nD τ sig Unit
  | 0 => oRecv c 7
  | n + 1 => oBar c n + (if h : n < 7 then tallyAt (barCell (mi c ⟨n, h⟩)) () 1 else 0)
/-- What device `c` owes at launch. -/
def O₀ (c : Dev nD) : CellTallies nD τ sig Unit := oBar c 7

/-- Signal `j` leaves the signals below `j`, -/
theorem oBar_peel (c : Dev nD) (j : Fin 7) : oBar c (j.val + 1) = oBar c j.val + tallyAt (barCell (mi c j)) () 1 := by
  show oBar c j.val + _ = _; rw [dif_pos j.isLt]
/-- and copy `j` the copies above `j`. -/
theorem oRecv_peel (c : Dev nD) (j : Fin 7) : oRecv c (7 - j.val) = oRecv c (6 - j.val) + tallyAt (recvCell (pl c j) j) () N := by
  have hj := j.isLt
  rw [show 7 - j.val = (6 - j.val) + 1 by omega]
  show oRecv c (6 - j.val) + _ = _
  rw [dif_pos (by omega : 6 - j.val < 7)]
  have : Fin.rev (⟨6 - j.val, by omega⟩ : Fin 7) = j := Fin.ext (by rw [Fin.val_rev]; show 7 - (6 - j.val + 1) = j.val; omega)
  rw [this]

def L (g : GSem nD τ sig) : Finset Unit := if g.1.2 = .tc then {()} else ∅
/-- Barrier cells at 1, receive cells at 2, every other cell at 0. -/
def lv (g : GSem nD τ sig) (_ : Unit) : ℕ := if g.2 = .reg barS then 1 else match role g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 7) (u : Unit) : lv (recvCell c j) u = 2 := by
  unfold lv; rw [if_neg (recv_ne_bar j), role_recv]

/-- Only receive cells are owed copies; -/
theorem oRecv_pos {c : Dev nD} {g : GSem nD τ sig} {u : Unit} : ∀ {n : ℕ}, 0 < oRecv c n g u → ∃ d j, g = recvCell d j
  | 0, h => absurd h (Nat.lt_irrefl 0)
  | n + 1, h => by
    unfold oRecv at h
    rw [Pi.add_apply, Finsupp.add_apply] at h
    by_cases hn : n < 7
    · rw [dif_pos hn, tallyAt_apply] at h
      by_cases hg : g = recvCell (pl c (Fin.rev ⟨n, hn⟩)) (Fin.rev ⟨n, hn⟩) ∧ u = ()
      · exact ⟨_, _, hg.1⟩
      · rw [if_neg hg] at h; exact oRecv_pos h
    · rw [dif_neg hn] at h; exact oRecv_pos h
/-- and only barrier cells signals. -/
theorem oBar_pos {c : Dev nD} {g : GSem nD τ sig} {u : Unit} :
    ∀ {n : ℕ}, 0 < oBar c n g u → (∃ d j, g = recvCell d j) ∨ ∃ d, g = barCell d
  | 0, h => Or.inl (oRecv_pos h)
  | n + 1, h => by
    unfold oBar at h
    rw [Pi.add_apply, Finsupp.add_apply] at h
    by_cases hn : n < 7
    · rw [dif_pos hn, tallyAt_apply] at h
      by_cases hg : g = barCell (mi c ⟨n, hn⟩) ∧ u = ()
      · exact Or.inr ⟨_, hg.1⟩
      · rw [if_neg hg] at h; exact oBar_pos h
    · rw [dif_neg hn] at h; exact oBar_pos h

/-- A staging cell may be waited for whatever the core owes here. -/
theorem mayWait_stage (c : Dev nD) (q : DmaSem sig) (hq : ∀ j, SemLoc.dma q ≠ .dma (recvS j)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oBar_pos hg with ⟨d, j, rfl⟩ | ⟨d, rfl⟩ <;> exact Finset.mem_singleton_self _)
      (fun p hp => by
        rw [Finset.mem_singleton.mp hp]; dsimp only [lv]; rw [if_neg (fun h => by cases h)]
        cases hr : role (.dma q) with
        | none => rfl
        | some bj =>
          obtain ⟨b, j⟩ := bj
          cases b with
          | false => rfl
          | true =>
            refine absurd ?_ (hq j)
            have := List.find?_some hr
            simpa using this)
      (fun g u hg => by
        rcases oBar_pos hg with ⟨d, j, rfl⟩ | ⟨d, rfl⟩
        · rw [lv_recv]; decide
        · rw [lv_bar]; decide)
  · rw [MayWait_zero]; iintro -; iempintro

/-- At its barrier wait a device owes copies only. -/
theorem mayWait_bar (c : Dev nD) : (levAts L lv : sProp 𝕄) ⊢ MayWait (c : Thread nD τ) (.reg barS) () (oRecv c 7) :=
  MayOwe.of_cut (L := L) (lev := lv) 1 (fun p hp => by rw [Finset.mem_singleton.mp hp, L_tc]; exact Finset.mem_singleton_self _)
    (fun g u hg => by obtain ⟨d, j, rfl⟩ := oRecv_pos hg; exact Finset.mem_singleton_self _)
    (fun p hp => by rw [Finset.mem_singleton.mp hp]; dsimp only [lv]; rw [if_pos rfl])
    (fun g u hg => by obtain ⟨d, j, rfl⟩ := oRecv_pos hg; rw [lv_recv]; decide)

end Cert.KProof

end
-- ==== Proof.Ops.lean ====
/-
# One rule per kind of operation of the body

Each rule says what device `c` holds before and after one operation, at a symbolic device and slot: a copy of a chunk of
`w` into a slot of the ring, its wait, the loads, the store of the accumulator, a signal, the barrier wait, a copy to
another device, and the waits on the receive and send cells.
-/
module

public import proofs.«01_k».proof.Proof.Proto

@[expose] public section

set_option maxRecDepth 16384

noncomputable section

namespace Cert.KProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a body's program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited for. -/
def owz (c : Dev nD) (O : CellTallies nD τ sig Unit) : sProp 𝕄 := iprop(∃ W : Waits sig Unit, owes (c : Thread nD τ) O W)

/-! ## The exchange's cells and the records every device reads -/

/-- The exchange's cells on a device: its barrier cell, its receive cells, its send cells. -/
abbrev CI : Type := Option (Bool × Fin 7)

/-- The semaphore of each. -/
def ksem : CI → SemLoc sig
  | none => .reg barS
  | some (true, j) => .dma (recvS j)
  | some (false, j) => .dma (sendS j)

abbrev kcell (ci : Dev nD × CI) : GSem nD τ sig := ((ci.1 : Thread nD τ), ksem ci.2)

/-- Every cell of the exchange has its invariant, under the names `K`, and is at its first round. -/
def Rec (K : Dev nD × CI → ℕ) : sProp 𝕄 :=
  iprop((bigSep Finset.univ fun ci => cellInv ER (sched m ρ) (K ci) (kcell ci)) ∗ bigSep Finset.univ fun ci => reached ER (kcell ci) 0)

instance rec_persistent (K : Dev nD × CI → ℕ) : BI.Persistent (Rec (F := F) m ρ K) := by unfold Rec; infer_instance

theorem rec_inv (K : Dev nD × CI → ℕ) (ci : Dev nD × CI) : Rec m ρ K ⊢ cellInv ER (sched m ρ) (K ci) (kcell ci) := by
  unfold Rec
  exact BI.Entails.trans (BI.Entails.trans BI.sep_and BI.and_elimL) (bigSep_elim (Φ := fun ci => cellInv ER (sched m ρ) (K ci) (kcell ci)) (Finset.mem_univ ci))
theorem rec_reached (K : Dev nD × CI → ℕ) (ci : Dev nD × CI) : Rec m ρ K ⊢ (reached ER (kcell ci) 0 : sProp 𝕄) := by
  unfold Rec
  exact BI.Entails.trans (BI.Entails.trans BI.sep_and BI.and_elimR) (bigSep_elim (Φ := fun ci => (reached ER (kcell ci) 0 : sProp 𝕄)) (Finset.mem_univ ci))

/-! ## The chunks of `w` -/

/-- Device `c`'s copy of `w`. -/
def wv (c : Dev nD) : (main_arg1 : Ref sig .tc).ty.Contents (Elt F) := (s₀ m ρ).mem ((c : Thread nD τ).loc main_arg1)

/-- The first row of half `b` of the block of the device `h` places before `c`. -/
abbrev wRow (c : Dev nD) (h : Fin 8) (b : Fin 2) : ℕ := 512 * ((c.val + (8 - h.val)) % 8) + 256 * b.val

theorem wRow_lt (c : Dev nD) (h : Fin 8) (b : Fin 2) (k : ℕ) (hk : k < 256) : wRow c h b + k < 4096 := by
  have := Nat.mod_lt (c.val + (8 - h.val)) (show 0 < 8 by decide)
  have := b.isLt
  unfold wRow; omega

/-- A ring slot holding that chunk of `w`. -/
def wslot (c : Dev nD) (h : Fin 8) (b : Fin 2) : (cc0_scratch2 : Ref sig .tc).ty.Contents (Elt F) :=
  fun i => wv m ρ c (ValueIdx.ix2 (⟨wRow c h b + (i 1).val, wRow_lt c h b _ (i 1).isLt⟩ : Fin 4096) (i 2))
/-- The chunk as a load gives it. -/
def wch (c : Dev nD) (h : Fin 8) (b : Fin 2) : Vec F S1x256x8192 .f32 :=
  fun i => wv m ρ c (ValueIdx.ix2 (⟨wRow c h b + (i 1).val, wRow_lt c h b _ (i 1).isLt⟩ : Fin 4096) (i 2))
/-- Landing slot `j` as a load gives it once the copy has landed. -/
def cch (c : Dev nD) (j : Fin 7) : Vec F S1x512x512 .fp8e4m3 :=
  fun i => e8 m ρ (mi c j) (ValueIdx.ix2 (⟨512 * c.val + (i 1).val, by
    have h1 : (i 1).val < 512 := (i 1).isLt
    have h2 := c.isLt
    have h3 : nD = 8 := rfl
    omega⟩ : Fin 4096) (i 2))

/-- The cast block at equal devices and equal coordinates. -/
theorem e8_congr {d d' : Dev nD} {x x' : S4096x512.Idx} (hd : d = d') (hx : ∀ a, (x a).val = (x' a).val) :
    e8 m ρ d x = e8 m ρ d' x' := by
  subst hd; exact congrArg _ (funext fun a => Fin.ext (hx a))
/-- `w` at equal coordinates. -/
theorem wv_congr (c : Dev nD) {x x' : S4096x8192.Idx} (hx : ∀ a, (x a).val = (x' a).val) : wv m ρ c x = wv m ρ c x' :=
  congrArg _ (funext fun a => Fin.ext (hx a))

/-- The share of `w` each ring slot reads with. -/
def qs (s : Fin 3) : PosShare TreeShare :=
  match s with
  | 0 => fullShare.left
  | 1 => fullShare.right.left
  | 2 => fullShare.right.right

abbrev Nw : ℕ := (bSlot 0).view.dmaCredit
theorem Nw_pos : 0 < Nw := View.dmaCredit_pos _ (by decide)

abbrev wR (off : Fin 2 → ℕ) (inb : ∀ a, off a + S256x8192.size a ≤ S4096x8192.size a) : Rect S4096x8192 :=
  Rect.unit (s := S4096x8192) off S256x8192.size inb

/-- A ring slot at rest: its elements at `f`, its semaphore at zero, its share of `w`. -/
def Slot (c : Dev nD) (s : Fin 3) (f : (cc0_scratch2 : Ref sig .tc).ty.Contents (Elt F)) : sProp 𝕄 :=
  iprop(bPts c s f ∗ semVal (wCell c s) 0 ∗ (((c : Thread nD τ).loc main_arg1) ↦{qs s} wv m ρ c))

/-- A ring slot a copy of the chunk at `h`, `b` is on its way to. -/
def Fly (c : Dev nD) (s : Fin 3) (h : Fin 8) (b : Fin 2) : sProp 𝕄 :=
  iprop(∃ off : Fin 2 → ℕ, ∃ inb : ∀ a, off a + S256x8192.size a ≤ S4096x8192.size a, ∃ fd : (cc0_scratch2 : Ref sig .tc).ty.Contents (Elt F),
    ⌜off = ![wRow c h b, 0]⌝ ∗
    Transfers.Flight countersEmb (c : Thread nD τ) (.dma (wS s)) () Nw
      iprop(((bSlot s).view.loc (c : Thread nD τ) ↦[(bSlot s).view.set]{fullShare}
          ((bSlot s).view.write (Elt F) fd ((wM.slice (wR off inb) (fun _ => rfl)).view.read (Elt F) (wv m ρ c)) Finset.univ))
        ∗ ((wM.slice (wR off inb) (fun _ => rfl)).view.loc (c : Thread nD τ) ↦[(wM.slice (wR off inb) (fun _ => rfl)).view.set]{qs s} wv m ρ c))
    ∗ (((c : Thread nD τ).loc main_arg1) ↦[Finset.univ \ (wM.slice (wR off inb) (fun _ => rfl)).view.set]{qs s} wv m ρ c))

section Rules
variable {α : Type} {Q : α → sProp (MT nD τ sig Unit (Elt F) ℕ UU ℕ)} {k : PUnit → Prog (TpuEff nD τ sig (Elt F) Λ₀ .tc) α}
variable (K : Dev nD × CI → ℕ) (c : Dev nD)

theorem wp_wIssue (s : Fin 3) (h : Fin 8) (b : Fin 2) {off : Fin 2 → ℕ} {inb : ∀ a, off a + S256x8192.size a ≤ S4096x8192.size a}
    (ho : off = ![wRow c h b, 0]) {f : (cc0_scratch2 : Ref sig .tc).ty.Contents (Elt F)}
    {hx : (wM.slice (wR off inb) (fun _ => rfl)).view.WordExact} {hy : (bSlot s).view.WordExact}
    {hz : DmaTarget.Typed (nD := nD) (τ := τ) (sig := sig) (p := .tc) .hbm (.dma (wS s)) (.here (bSlot s))} :
    Slot m ρ c s f ⊢ iprop((Fly m ρ c s h b -∗ wpc c (k ⟨⟩) Q)
      -∗ wpc c (.op (.enqueueDma (wM.slice (wR off inb) (fun _ => rfl)) (.here (bSlot s)) (.dma (wS s)) hx hy hz) k) Q) := by
  unfold Slot bPts
  iintro ⟨Hb, Hv, Hw⟩ Hk
  ihave Hw := (pointsTo_split_subset (Finset.subset_univ (wM.slice (wR off inb) (fun _ => rfl)).view.set)).1 $$ Hw
  icases Hw with ⟨Hw, Hw'⟩
  rw [← bSlot_set]
  iapply (Transfers.wp_dmaLocal countersEmb 𝒱₀ (c : Thread nD τ) none (src := wM.slice (wR off inb) (fun _ => rfl)) (dst := bSlot s) (fs := wv m ρ c) (q := qs s) (fd := f)
      () Nw rfl Nw_pos (Finset.Subset.refl _)) $$ [Hb Hv Hw]
  · isplitl [Hw]; · iexact Hw
    isplitl [Hb]; · iexact Hb
    iexact Hv
  iintro Hf
  iapply Hk
  unfold Fly
  iexists off; iexists inb; iexists f
  isplitr; · ipureintro; exact ho
  isplitl [Hf]; · iexact Hf
  iexact Hw'

/-- What a landed copy leaves in the ring slot. -/
theorem wslot_landed (s : Fin 3) (h : Fin 8) (b : Fin 2) {off : Fin 2 → ℕ} {inb : ∀ a, off a + S256x8192.size a ≤ S4096x8192.size a}
    (ho : off = ![wRow c h b, 0]) (fd : (cc0_scratch2 : Ref sig .tc).ty.Contents (Elt F)) (i) (hi : i ∈ (bSlot s).view.set) :
    (bSlot s).view.write (Elt F) fd ((wM.slice (wR off inb) (fun _ => rfl)).view.read (Elt F) (wv m ρ c)) Finset.univ i = wslot m ρ c h b i := by
  subst ho
  obtain ⟨x, -, rfl⟩ := Finset.mem_map.mp hi
  rw [View.write_emb_of_mem _ _ (Finset.mem_univ x)]
  refine (cast_eq _ _).trans ?_
  rw [View.read_apply]
  refine (cast_eq _ _).trans ?_
  obtain ⟨x0, x1, rfl⟩ : ∃ x0 x1, x = ValueIdx.ix2 x0 x1 := ⟨x 0, x 1, by funext a; fin_cases a <;> rfl⟩
  have he : (bSlot s).view.emb (ValueIdx.ix2 x0 x1) = (bR s).emb (ValueIdx.ix3 (0 : Fin 1) x0 x1) := by
    show (bR s).emb (Shape.reshapeEquiv _ (ValueIdx.ix2 x0 x1)) = _
    exact congrArg _ (ValueIdx.reshapeEquiv_ix2_1ab _ x0 x1)
  rw [he]
  refine wv_congr m ρ c (fun a => ?_)
  fin_cases a
  · show wRow c h b + 1 * x0.val = wRow c h b + (0 + 1 * x0.val); omega
  · show 0 + 1 * x1.val = 0 + 1 * x1.val; rfl

theorem wp_wWait (s : Fin 3) (h : Fin 8) (b : Fin 2) {srcw : Memref sig .tc .hbm S256x8192 .f32}
    {hx : srcw.view.WordExact} {hy : (bSlot s).view.WordExact} :
    Fly m ρ c s h b ⊢ iprop(owz c 0 -∗ ((Slot m ρ c s (wslot m ρ c h b) ∗ owz c 0) -∗ wpc c (k ⟨⟩) Q)
      -∗ wpc c (.op (.waitDma2 (wS s) srcw (bSlot s) hx hy) k) Q) := by
  unfold Fly owz
  iintro ⟨%off, %inb, %fd, %ho, Hf, Hw'⟩ ⟨%W, HO⟩ Hk
  iapply (Transfers.wp_waitLocal countersEmb 𝒱₀ (c : Thread nD τ) none (sem := wS s) (srcw := srcw) (dstw := bSlot s) (hsrc := hx) (hdst := hy) () (N := Nw) rfl) $$ [Hf HO]
  · isplitl [Hf]; · iexact Hf
    iexact HO
  iintro ⟨⟨Hb, Hw⟩, Hv, HO⟩
  iapply Hk
  isplitr [HO]
  · unfold Slot bPts
    isplitl [Hb]
    · rw [← bSlot_set]
      iapply (Entails.of_eq (pointsTo_congr (fun i hi => wslot_landed m ρ c s h b ho fd i hi))) $$ Hb
    isplitl [Hv]; · iexact Hv
    iapply (pointsTo_split_subset (Finset.subset_univ (wM.slice (wR off inb) (fun _ => rfl)).view.set)).2
    isplitl [Hw]; · iexact Hw
    iexact Hw'
  iexists _; iexact HO

/-! ## Loads and the store -/

theorem wpc_ret {a : α} : Q a ⊢ wpc c (.ret a) Q := by
  iintro H
  simp only [wp_ret]
  imodintro; iexact H

theorem wp_wLoad (s : Fin 3) (h : Fin 8) (b : Fin 2) {kk : Vec F S1x256x8192 .f32 → Prog (TpuEff nD τ sig (Elt F) Λ₀ .tc) α}
    {hl : bM.view.LoadsAt (bR s).toLoadRect} :
    Slot m ρ c s (wslot m ρ c h b) ⊢ iprop((Slot m ρ c s (wslot m ρ c h b) -∗ wpc c (kk (wch m ρ c h b)) Q)
      -∗ wpc c (.op (.load bM (bR s).toLoadRect hl) kk) Q) := by
  unfold Slot bPts
  iintro ⟨Hb, Hr⟩ Hk
  iapply (wp_load 𝒱₀ (c : Thread nD τ) none Set.univ (m := bM) (r := (bR s).toLoadRect) (S := bSet s)
    (by show Finset.map (Function.Embedding.refl _) (bR s).set ⊆ (bR s).set; rw [Finset.map_refl])) $$ Hb
  iintro Hb
  have hv : bM.view.readAt (Elt F) (bR s).toLoadRect (wslot m ρ c h b) = wch m ρ c h b := by
    funext i
    rw [View.readAt_apply, View.read_apply]
    refine (cast_eq _ _).trans ?_
    refine wv_congr m ρ c (fun a => ?_)
    fin_cases a
    · show wRow c h b + (0 + 1 * (i 1).val) = wRow c h b + (i 1).val; omega
    · show 0 + 1 * (i 2).val = (i 2).val; omega
  rw [hv]
  iapply Hk
  isplitl [Hb]; · iexact Hb
  iexact Hr

theorem wp_cLoad (j : Fin 7) {kk : Vec F S1x512x512 .fp8e4m3 → Prog (TpuEff nD τ sig (Elt F) Λ₀ .tc) α}
    {hl : cM.view.LoadsAt (cR j).toLoadRect} :
    cPts c j (cVal m ρ c) ⊢ iprop((cPts c j (cVal m ρ c) -∗ wpc c (kk (cch m ρ c j)) Q)
      -∗ wpc c (.op (.load cM (cR j).toLoadRect hl) kk) Q) := by
  unfold cPts
  iintro Hb Hk
  iapply (wp_load 𝒱₀ (c : Thread nD τ) none Set.univ (m := cM) (r := (cR j).toLoadRect) (S := cSet j)
    (by show Finset.map (Function.Embedding.refl _) (cR j).set ⊆ (cR j).set; rw [Finset.map_refl])) $$ Hb
  iintro Hb
  have hv : cM.view.readAt (Elt F) (cR j).toLoadRect (cVal m ρ c) = cch m ρ c j := by
    funext i
    rw [View.readAt_apply, View.read_apply]
    refine (cast_eq _ _).trans ?_
    refine e8_congr m ρ (congrArg (mi c) (Fin.ext ?_)) (fun a => ?_)
    · have h1 : (i 0).val < 1 := (i 0).isLt
      show j.val + 1 * (i 0).val = j.val; omega
    fin_cases a
    · show 512 * c.val + (0 + 1 * (i 1).val) = 512 * c.val + (i 1).val; omega
    · show 0 + 1 * (i 2).val = (i 2).val; omega
  rw [hv]
  iapply Hk; iexact Hb

theorem hz2 : (![0, 0] : Fin 2 → Nat) = fun _ => 0 := funext fun a => by fin_cases a <;> rfl

/-- The accumulator at `f`. -/
def oPts (f : (cc0_stg3_0 : Ref sig .tc).ty.Contents (Elt F)) : sProp 𝕄 := ((c : Thread nD τ).loc cc0_stg3_0) ↦{fullShare} f
/-- The staged block of `x`. -/
def xPts : sProp 𝕄 := ((c : Thread nD τ).loc cc0_stg0_0) ↦{fullShare} xstg m ρ c

abbrev oR : Rect S512x8192 := Rect.unit (s := S512x8192) ![0, 0] S512x8192.size inb_S512x8192_S512x8192_0_0
abbrev eRw : Rect S4096x512 := Rect.unit (s := S4096x512) ![0, 0] S4096x512.size inb_S4096x512_S4096x512_0_0

theorem wp_oLoad {f : (cc0_stg3_0 : Ref sig .tc).ty.Contents (Elt F)} {kk : Vec F S512x8192 .f32 → Prog (TpuEff nD τ sig (Elt F) Λ₀ .tc) α}
    {hl : oM.view.LoadsAt oR.toLoadRect} :
    oPts c f ⊢ iprop((oPts c f -∗ wpc c (kk f) Q) -∗ wpc c (.op (.load oM oR.toLoadRect hl) kk) Q) := by
  unfold oPts
  iintro Hb Hk
  iapply (wp_load 𝒱₀ (c : Thread nD τ) none Set.univ (m := oM) (r := oR.toLoadRect) (Finset.subset_univ _)) $$ Hb
  iintro Hb
  rw [show oM.view.readAt (Elt F) oR.toLoadRect f = f from Memref.readAt_unit_zero (Elt F) cc0_stg3_0 hz2 _ f]
  iapply Hk; iexact Hb

theorem wp_oStore {f w : (cc0_stg3_0 : Ref sig .tc).ty.Contents (Elt F)}
    {hx : (oM.access oR).Stores Finset.univ} {hm : (Finset.univ : Finset oR.shape.Idx) = Finset.univ ∨ ∀ a, oR.stride a = 1} :
    oPts c f ⊢ iprop((oPts c w -∗ wpc c (k ⟨⟩) Q) -∗ wpc c (.op (.store oM oR w Finset.univ hx hm) k) Q) := by
  unfold oPts
  iintro Hb Hk
  iapply (wp_store 𝒱₀ (c : Thread nD τ) none Set.univ (m := oM) (r := oR) (Mk := Finset.univ) (Finset.subset_univ _)) $$ Hb
  iintro Hb
  rw [show (oM.access oR).write (Elt F) f w Finset.univ = w from Memref.write_access_unit_zero_univ (Elt F) cc0_stg3_0 hz2 _ f w]
  iapply Hk; iexact Hb

theorem wp_xLoad {r : LoadRect S4096x512} {hl : xM.view.LoadsAt r}
    {kk : (r.shape.Idx → Elt F .f32) → Prog (TpuEff nD τ sig (Elt F) Λ₀ .tc) α} :
    xPts m ρ c ⊢ iprop((xPts m ρ c -∗ wpc c (kk (xM.view.readAt (Elt F) r (xstg m ρ c))) Q) -∗ wpc c (.op (.load xM r hl) kk) Q) := by
  unfold xPts
  iintro Hb Hk
  iapply (wp_load 𝒱₀ (c : Thread nD τ) none Set.univ (m := xM) (r := r) (Finset.subset_univ _)) $$ Hb
  iexact Hk

/-- The whole buffer of the cast block. -/
def ePtsW (f : (cc0_scratch0 : Ref sig .tc).ty.Contents (Elt F)) : sProp 𝕄 := ((c : Thread nD τ).loc cc0_scratch0) ↦{fullShare} f

theorem wp_eLoad {f : (cc0_scratch0 : Ref sig .tc).ty.Contents (Elt F)} {kk : Vec F S4096x512 .fp8e4m3 → Prog (TpuEff nD τ sig (Elt F) Λ₀ .tc) α}
    {hl : eM.view.LoadsAt eRw.toLoadRect} :
    ePtsW c f ⊢ iprop((ePtsW c f -∗ wpc c (kk f) Q) -∗ wpc c (.op (.load eM eRw.toLoadRect hl) kk) Q) := by
  unfold ePtsW
  iintro Hb Hk
  iapply (wp_load 𝒱₀ (c : Thread nD τ) none Set.univ (m := eM) (r := eRw.toLoadRect) (Finset.subset_univ _)) $$ Hb
  iintro Hb
  rw [show eM.view.readAt (Elt F) eRw.toLoadRect f = f from Memref.readAt_unit_zero (Elt F) cc0_scratch0 hz2 _ f]
  iapply Hk; iexact Hb

theorem wp_eStore {f w : (cc0_scratch0 : Ref sig .tc).ty.Contents (Elt F)}
    {hx : (eM.access eRw).Stores Finset.univ} {hm : (Finset.univ : Finset eRw.shape.Idx) = Finset.univ ∨ ∀ a, eRw.stride a = 1} :
    ePtsW c f ⊢ iprop((ePtsW c w -∗ wpc c (k ⟨⟩) Q) -∗ wpc c (.op (.store eM eRw w Finset.univ hx hm) k) Q) := by
  unfold ePtsW
  iintro Hb Hk
  iapply (wp_store 𝒱₀ (c : Thread nD τ) none Set.univ (m := eM) (r := eRw) (Mk := Finset.univ) (Finset.subset_univ _)) $$ Hb
  iintro Hb
  rw [show (eM.access eRw).write (Elt F) f w Finset.univ = w from Memref.write_access_unit_zero_univ (Elt F) cc0_scratch0 hz2 _ f w]
  iapply Hk; iexact Hb

/-! ## The exchange -/

/-- Signal `j`, to the device `j + 1` places before: its duty `j`, with this device's landing slot `j`. -/
theorem wp_sig (j : Fin 7) (p q : ℕ) (hp : p = j.val + 1) (hq : q = j.val) {n : Dev nD} (hn : n = mi c j) :
    Rec m ρ K ⊢ iprop(owz c (oBar c p) -∗ dutyTok ER (barCell (mi c j)) 0 j -∗ (∃ f, cPts c j f)
      -∗ (owz c (oBar c q) -∗ wpc c (k ⟨⟩) Q) -∗ wpc c (.op (.semSignal (Dev.tc n : Thread nD τ) barS 1) k) Q) := by
  subst hn hp hq
  unfold owz
  iintro #HR ⟨%W, HO⟩ Ht Hc Hk
  iapply (Rounds.wp_signal 𝒱₀ ER (sched m ρ) (c : Thread nD τ) none (dst := (mi c j : Thread nD τ)) (κ := K (mi c j, none))
      (d := j) (by rw [duties_bar]; exact Finset.mem_univ _) ((amount_bar m ρ (mi c j) j).trans (by decide)) () (oBar c j.val) (oBar_peel c j))
    $$ [HO Ht Hc]
  · isplitr; · iapply (rec_inv m ρ K (mi c j, none)); iexact HR
    isplitl [HO]; · iexact HO
    isplitl [Ht]; · iexact Ht
    isplitl [Hc]
    · rw [payload_bar]; unfold barPay; rw [pl_mi]
      isplitl [Hc]; · iexact Hc
      iapply (rec_reached m ρ K (c, some (true, j))); iexact HR
    iapply (rec_reached m ρ K (mi c j, none)); iexact HR
  iintro HO
  iapply Hk
  iexists W; iexact HO

/-- The barrier wait: every other device's landing slot for this device. -/
theorem wp_barWait :
    Rec m ρ K ⊢ iprop(levAts L lv -∗ owz c (oRecv c 7) -∗ cred (tallyAt (barCell c) () 7) -∗ atPos ER (barCell c) 0 ∅ 0
      -∗ ((owz c (oRecv c 7) ∗ semVal (barCell c) 0 ∗ bigSep Finset.univ fun j => barPay (F := F) c j) -∗ wpc c (k ⟨⟩) Q)
        -∗ wpc c (.op (.semWait barS 7) k) Q) := by
  unfold owz
  iintro #HR #Hl ⟨%W, HO⟩ Hc Ha Hk
  ihave #HI := (rec_inv m ρ K (c, none)) $$ HR
  iapply (Rounds.wp_wait_rest_token 𝒱₀ ER (sched m ρ) (c : Thread nD τ) none (κ := K (c, none))
      (wpE_semWait_eq 𝒱₀ (c : Thread nD τ) none Set.univ) (Set.mem_univ _) () (O := oRecv c 7) (W := W) (R := 0) (m := 0) (T := ∅)
      (by rw [expect_bar])) $$ [Hc HO Ha]
  · isplitr; · iexact HI
    isplitl [Hc]; · iexact Hc
    isplitl [HO]; · iexact HO
    isplitr; · iapply (mayWait_bar c); iexact Hl
    iexact Ha
  iintro ⟨HO, Ha, -, Hp⟩
  ihave Hp := (Entails.of_eq (rest_bar m ρ c)) $$ Hp
  imod (Rounds.cell_close ER (sched m ρ) (Set.mem_univ (K (c, none))) (fun h => h) (R := 0 + 1) (duties_later m ρ (barCell c))) $$ [Ha] with Hz
  · isplitr; · iexact HI
    iexact Ha
  iapply Hk
  isplitl [HO]; · iexists _; iexact HO
  isplitl [Hz]; · iexact Hz
  iexact Hp

/-- The rows copy `j` takes read what the receiver's landing slot is to hold. -/
theorem landed_eq (j : Fin 7) {off : Fin 2 → ℕ} {inb : ∀ a, off a + S512x512.size a ≤ S4096x512.size a}
    (ho : off = ![512 * (pl c j).val, 0]) (fd : (cc0_scratch1 : Ref sig .tc).ty.Contents (Elt F)) (i) (hi : i ∈ (cSlot j).view.set) :
    (cSlot j).view.write (Elt F) fd ((eM.slice (Rect.unit (s := S4096x512) off S512x512.size inb) (fun _ => rfl)).view.read (Elt F) (e8 m ρ c)) Finset.univ i
      = cVal m ρ (pl c j) i := by
  subst ho
  obtain ⟨x, -, rfl⟩ := Finset.mem_map.mp hi
  rw [View.write_emb_of_mem _ _ (Finset.mem_univ x)]
  refine (cast_eq _ _).trans ?_
  rw [View.read_apply]
  refine (cast_eq _ _).trans ?_
  obtain ⟨x0, x1, rfl⟩ : ∃ x0 x1, x = ValueIdx.ix2 x0 x1 := ⟨x 0, x 1, by funext a; fin_cases a <;> rfl⟩
  have he : (cSlot j).view.emb (ValueIdx.ix2 x0 x1) = (cR j).emb (ValueIdx.ix3 (0 : Fin 1) x0 x1) := by
    show (cR j).emb (Shape.reshapeEquiv _ (ValueIdx.ix2 x0 x1)) = _
    exact congrArg _ (ValueIdx.reshapeEquiv_ix2_1ab _ x0 x1)
  rw [he]
  refine e8_congr m ρ ((mi_pl c j).symm.trans (congrArg (mi (pl c j)) (Fin.ext ?_))) (fun a => ?_)
  · show j.val = j.val + 1 * 0; omega
  fin_cases a
  · show 512 * (pl c j).val + 1 * x0.val = 512 * (pl c j).val + (0 + 1 * x0.val); omega
  · show 0 + 1 * x1.val = 0 + 1 * x1.val; rfl

/-- Copy `j`, of the row block of the device `j + 1` places after to that device's landing slot `j`. -/
theorem wp_send (j : Fin 7) {n : Dev nD} (hn : n = pl c j) {off : Fin 2 → ℕ} {inb : ∀ a, off a + S512x512.size a ≤ S4096x512.size a}
    (ho : off = ![512 * (pl c j).val, 0])
    {hsc : (cSlot j : Memref sig (Dev.tc n : Thread nD τ).2.kind .vmem S512x512 .fp8e4m3).view.ref.isScScratch = false}
    {hsrc : (eM.slice (Rect.unit (s := S4096x512) off S512x512.size inb) (fun _ => rfl)).view.WordExact} {hdst : (cSlot j).view.WordExact}
    {hsem : DmaTarget.Typed .vmem (.dma (recvS j)) (.remote (Dev.tc n : Thread nD τ) (cSlot j) (.dma (sendS j)) hsc)} :
    Rec m ρ K ⊢ iprop(owz c (oRecv c (7 - j.val)) -∗ ePts c (pl c j) (e8 m ρ c) -∗ (∃ f, cPts (pl c j) j f)
        -∗ dutyTok ER (sendCell c j) 0 0 -∗ dutyTok ER (recvCell (pl c j) j) 0 0
      -∗ ((owz c (oRecv c (6 - j.val)) ∗ cred (tallyAt (sendCell c j) () N)) -∗ wpc c (k ⟨⟩) Q)
        -∗ wpc c (.op (.enqueueDma (eM.slice (Rect.unit (s := S4096x512) off S512x512.size inb) (fun _ => rfl))
              (.remote (Dev.tc n : Thread nD τ) (cSlot j) (.dma (sendS j)) hsc) (.dma (recvS j)) hsrc hdst hsem) k) Q) := by
  subst hn
  have hset : (eM.slice (Rect.unit (s := S4096x512) off S512x512.size inb) (fun _ => rfl)).view.set = eSet (pl c j) := by
    subst ho; exact eBlk_set (pl c j)
  unfold owz ePts cPts
  iintro #HR ⟨%W, HO⟩ He ⟨%fn, Hc⟩ Ht₁ Ht₂ Hk
  rw [← hset, ← cSlot_set]
  iapply (Rounds.wp_send_pointsTo 𝒱₀ ER (sched m ρ) (c : Thread nD τ) none
    (src := eM.slice (Rect.unit (s := S4096x512) off S512x512.size inb) (fun _ => rfl)) (c' := (pl c j : Thread nD τ)) (dst := cSlot j)
    (sS := .dma (sendS j)) (sem := .dma (recvS j)) (κ₁ := K (c, some (false, j))) (κ₂ := K (pl c j, some (true, j)))
    (r₁ := 0) (r₂ := 0) (d₁ := 0) (d₂ := 0) (q := fullShare) (fs := e8 m ρ c) (fd := fn)
    (by rw [duties_send]; exact Finset.mem_singleton_self _) (by rw [duties_recv]; exact Finset.mem_singleton_self _)
    () () N rfl (amount_send m ρ c j 0) (amount_recv m ρ (pl c j) j 0) (oRecv c (6 - j.val)) (oRecv_peel c j) (W := W)
    (by rw [payload_send]; unfold sendPay ePts; rw [hset])
    (by
      rw [payload_recv]; unfold recvPay cPts; rw [← cSlot_set]
      exact Entails.of_eq (pointsTo_congr (fun i hi => landed_eq m ρ c j ho fn i hi)))) $$ [HO He Hc Ht₁ Ht₂]
  · isplitr; · iapply (rec_inv m ρ K (c, some (false, j))); iexact HR
    isplitr; · iapply (rec_inv m ρ K (pl c j, some (true, j))); iexact HR
    isplitl [He]; · iexact He
    isplitl [Hc]; · iexact Hc
    isplitl [HO]; · iexact HO
    isplitl [Ht₁]; · iexact Ht₁
    isplitr; · iapply (rec_reached m ρ K (c, some (false, j))); iexact HR
    isplitl [Ht₂]; · iexact Ht₂
    iapply (rec_reached m ρ K (pl c j, some (true, j))); iexact HR
  iintro ⟨Hcr, HO⟩
  iapply Hk
  isplitl [HO]; · iexists _; iexact HO
  iexact Hcr

/-- A receive cell not yet waited for. -/
def Arr (j : Fin 7) : sProp 𝕄 := iprop(cred (tallyAt (recvCell c j) () N) ∗ atPos ER (recvCell c j) 0 ∅ 0)
/-- The landing slot once waited for, its receive cell at zero. -/
def Got (j : Fin 7) : sProp 𝕄 := iprop(cPts c j (cVal m ρ c) ∗ semVal (recvCell c j) 0)
/-- A send cell not yet waited for. -/
def Snt (j : Fin 7) : sProp 𝕄 := iprop(cred (tallyAt (sendCell c j) () N) ∗ atPos ER (sendCell c j) 0 ∅ 0)
/-- The rows sent, once waited for, and the send cell at zero. -/
def Back (j : Fin 7) : sProp 𝕄 := iprop(ePts c (pl c j) (e8 m ρ c) ∗ semVal (sendCell c j) 0)

theorem wp_gLoad (j : Fin 7) {kk : Vec F S1x512x512 .fp8e4m3 → Prog (TpuEff nD τ sig (Elt F) Λ₀ .tc) α}
    {hl : cM.view.LoadsAt (cR j).toLoadRect} :
    Got m ρ c j ⊢ iprop((Got m ρ c j -∗ wpc c (kk (cch m ρ c j)) Q) -∗ wpc c (.op (.load cM (cR j).toLoadRect hl) kk) Q) := by
  unfold Got
  iintro ⟨Hc, Hz⟩ Hk
  iapply (wp_cLoad m ρ c j) $$ Hc; iintro Hc
  iapply Hk
  isplitl [Hc]; · iexact Hc
  iexact Hz

theorem wp_recvWait (j : Fin 7) {srcw : Memref sig .tc .vmem S512x512 .fp8e4m3} {hx : srcw.view.WordExact} {hy : (cSlot j).view.WordExact} :
    Rec m ρ K ⊢ iprop(owz c 0 -∗ Arr c j -∗ ((owz c 0 ∗ Got m ρ c j) -∗ wpc c (k ⟨⟩) Q) -∗ wpc c (.op (.waitDma2 (recvS j) srcw (cSlot j) hx hy) k) Q) := by
  unfold owz Arr Got
  iintro #HR ⟨%W, HO⟩ ⟨Hc, Ha⟩ Hk
  ihave #HI := (rec_inv m ρ K (c, some (true, j))) $$ HR
  iapply (Rounds.wp_wait_rest_token 𝒱₀ ER (sched m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add]; exact (expect_recv m ρ c j).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_recv m ρ c j)) $$ Hp
  imod (Rounds.cell_close ER (sched m ρ) (Set.mem_univ (K (c, some (true, j)))) (fun h => h) (R := 0 + 1) (duties_later m ρ (recvCell c j))) $$ [Ha] with Hz
  · isplitr; · iexact HI
    iexact Ha
  iapply Hk
  isplitl [HO]; · iexists _; iexact HO
  isplitl [Hp]; · unfold recvPay; iexact Hp
  iexact Hz

theorem wp_sendWait (j : Fin 7) {off : Fin 2 → ℕ} {inb : ∀ a, off a + S512x512.size a ≤ S4096x512.size a}
    {srcw : Memref sig .tc .vmem S512x512 .fp8e4m3} {hx : srcw.view.WordExact}
    {hy : (eM.slice (Rect.unit (s := S4096x512) off S512x512.size inb) (fun _ => rfl)).view.WordExact} :
    Rec m ρ K ⊢ iprop(owz c 0 -∗ Snt c j -∗ ((owz c 0 ∗ Back m ρ c j) -∗ wpc c (k ⟨⟩) Q)
        -∗ wpc c (.op (.waitDma2 (sendS j) srcw (eM.slice (Rect.unit (s := S4096x512) off S512x512.size inb) (fun _ => rfl)) hx hy) k) Q) := by
  unfold owz Snt Back
  iintro #HR ⟨%W, HO⟩ ⟨Hc, Ha⟩ Hk
  ihave #HI := (rec_inv m ρ K (c, some (false, j))) $$ HR
  iapply (Rounds.wp_wait_rest_token 𝒱₀ ER (sched m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add]; exact (expect_send m ρ c j).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_send m ρ c j)) $$ Hp
  imod (Rounds.cell_close ER (sched m ρ) (Set.mem_univ (K (c, some (false, j)))) (fun h => h) (R := 0 + 1) (duties_later m ρ (sendCell c j))) $$ [Ha] with Hz
  · isplitr; · iexact HI
    iexact Ha
  iapply Hk
  isplitl [HO]; · iexists _; iexact HO
  isplitl [Hp]; · unfold sendPay; iexact Hp
  iexact Hz

end Rules

end Cert.KProof

end
-- ==== Proof.Body.lean ====
/-
# The body's parts

The generated program cuts the body into thirty-seven parts; here is what device `c` holds before and after each, by the
rules of the operations in program order. A part's scalar arguments and results that no operation reads are left free.
-/
module

public import proofs.«01_k».proof.Proof.Ops

@[expose] public section

set_option maxRecDepth 16384

noncomputable section

namespace Cert.KProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two scale buffers and their contents: the scales as the windows stage them. -/
abbrev sxM : Memref sig .tc .smem S1 .f32 := Memref.whole cc0_stg1_0
abbrev swM : Memref sig .tc .smem S1 .f32 := Memref.whole cc0_stg2_0

def sx (c : Dev nD) : (cc0_stg1_0 : Ref sig .tc).ty.Contents (Elt F) :=
  (win0_1.blk (0 : Fin 1)).view.read (Elt F) ((s₀ m ρ).mem ((c : Thread nD τ).loc main_arg2))
def sw (c : Dev nD) : (cc0_stg2_0 : Ref sig .tc).ty.Contents (Elt F) :=
  (win0_2.blk (0 : Fin 1)).view.read (Elt F) ((s₀ m ρ).mem ((c : Thread nD τ).loc main_arg3))
def sxPts (c : Dev nD) : sProp 𝕄 := ((c : Thread nD τ).loc cc0_stg1_0) ↦{fullShare} sx m ρ c
def swPts (c : Dev nD) : sProp 𝕄 := ((c : Thread nD τ).loc cc0_stg2_0) ↦{fullShare} sw m ρ c

/-- A buffer of one word read at its only index. -/
def word1 (f : S1.Idx → Elt F .f32) : Elt F .f32 := f (ValueIdx.ix1 (0 : Fin 1))

/-- The halves of the own row block of `x` that the body reads before anything has landed. -/
def xch0 (c : Dev nD) : Vec F S512x256 .f32 :=
  xM.view.readAt (Elt F) (Rect.unit (s := S4096x512) (k0_off3 c) S512x256.size (k0_off3_inb c)).toLoadRect (xstg m ρ c)
def xch1 (c : Dev nD) : Vec F S512x256 .f32 :=
  xM.view.readAt (Elt F) (Rect.unit (s := S4096x512) (k0_off4 c) S512x256.size (k0_off4_inb c)).toLoadRect (xstg m ρ c)

/-- A part of the body at the program's memrefs. -/
abbrev At {β : Type 1} (p : (arg0 : Memref sig .tc .vmem S4096x512 .f32) → (harg0 : arg0.IsWhole) → (arg1 : Memref sig .tc .hbm S4096x8192 .f32) → (harg1 : arg1.IsWhole)
    → (arg2 : Memref sig .tc .smem S1 .f32) → (harg2 : arg2.IsWhole) → (arg3 : Memref sig .tc .smem S1 .f32) → (harg3 : arg3.IsWhole)
    → (arg4 : Memref sig .tc .vmem S512x8192 .f32) → (harg4 : arg4.IsWhole) → (arg5 : Memref sig .tc .vmem S4096x512 .fp8e4m3) → (harg5 : arg5.IsWhole)
    → (arg6 : Memref sig .tc .vmem S7x512x512 .fp8e4m3) → (harg6 : arg6.IsWhole) → (arg7 : Memref sig .tc .vmem S3x256x8192 .f32) → (harg7 : arg7.IsWhole)
    → (arg8 : DmaSems sig S3) → (arg9 : DmaSems sig S7) → (arg10 : DmaSems sig S7) → β) : β :=
  p xM (Memref.isWhole_whole _) wM (Memref.isWhole_whole _) sxM (Memref.isWhole_whole _) swM (Memref.isWhole_whole _) oM (Memref.isWhole_whole _)
    eM (Memref.isWhole_whole _) cM (Memref.isWhole_whole _) bM (Memref.isWhole_whole _) cc0_scratch3 cc0_scratch4 cc0_scratch5

section Parts
variable (K : Dev nD × CI → ℕ) (c : Dev nD)

/-- One multiply-and-add: the `w` slot `s` and the accumulator read, the accumulator written with `g` of the two. -/
theorem wp_acc {α : Type} {Q : α → sProp 𝕄} {k : PUnit → Prog (TpuEff nD τ sig (Elt F) Λ₀ .tc) α} (s : Fin 3) (h : Fin 8) (b : Fin 2)
    {f : (cc0_stg3_0 : Ref sig .tc).ty.Contents (Elt F)} {g : Vec F S1x256x8192 .f32 → Vec F S512x8192 .f32 → Vec F S512x8192 .f32}
    {hb : bM.view.LoadsAt (bR s).toLoadRect} {hl hl' : oM.view.LoadsAt oR.toLoadRect}
    {hx : (oM.access oR).Stores Finset.univ} {hm : (Finset.univ : Finset oR.shape.Idx) = Finset.univ ∨ ∀ a, oR.stride a = 1} :
    Slot m ρ c s (wslot m ρ c h b) ⊢ iprop(oPts c f -∗ ((Slot m ρ c s (wslot m ρ c h b) ∗ oPts c (g (wch m ρ c h b) f)) -∗ wpc c (k ⟨⟩) Q)
      -∗ wpc c (.op (.load bM (bR s).toLoadRect hb) fun w => .op (.load oM oR.toLoadRect hl) fun a =>
          .op (.load oM oR.toLoadRect hl') fun _ => .op (.store oM oR (g w a) Finset.univ hx hm) k) Q) := by
  iintro Hs Ho Hk
  iapply (wp_wLoad m ρ c s h b) $$ Hs; iintro Hs
  iapply (wp_oLoad c) $$ Ho; iintro Ho
  iapply (wp_oLoad c) $$ Ho; iintro Ho
  iapply (wp_oStore c) $$ Ho; iintro Ho
  iapply Hk
  isplitl [Hs] <;> iassumption

theorem part1 {f0} {Kt : _ → sProp 𝕄} :
    Slot m ρ c 0 f0 ⊢ iprop((∀ a b d, Fly m ρ c 0 0 0 -∗ Kt ⟨c, a, b, d⟩) -∗ wpc c (At (k0_part1 (F := F))) Kt) := by
  simp only [k0_part1_eq_skeleton]; unfold k0_part1_skel
  simp only [Prog.lift, Prog.bind_op, Prog.bind_ret, Prog.pure_eq_ret]
  iintro Hs Hk
  simp only [wp_deviceId]
  iapply (wp_wIssue m ρ c 0 0 0 (off1_eq c 0 0)) $$ Hs; iintro Hs
  iapply (wpc_ret c); iapply Hk $$ Hs

theorem part2 {v2 v32 v : BitVec 32} {f1 f2 fe} {Kt : _ → sProp 𝕄} :
    Slot m ρ c 1 f1 ⊢ iprop(Slot m ρ c 2 f2 -∗ xPts m ρ c -∗ ePtsW c fe
      -∗ (∀ a b, Fly m ρ c 1 0 1 -∗ Fly m ρ c 2 1 0 -∗ xPts m ρ c -∗ ePtsW c (e8 m ρ c) -∗ Kt ⟨SemArray.scalar (sig.barrier 0 rfl), a, b⟩)
      -∗ wpc c (At (k0_part2 (F := F)) c v2 v32 v) Kt) := by
  unfold e8
  simp only [k0_part2_eq_skeleton]; unfold k0_part2_skel
  simp only [Prog.lift, Prog.bind_op, Prog.bind_ret, Prog.pure_eq_ret]
  iintro H1 H2 Hx He Hk
  iapply (wp_wIssue m ρ c 1 0 1 (off1_eq c 0 1)) $$ H1; iintro H1
  iapply (wp_wIssue m ρ c 2 1 0 (off1_eq c 1 0)) $$ H2; iintro H2
  iapply (wp_xLoad m ρ c) $$ Hx; iintro Hx
  iapply (wp_eLoad c) $$ He; iintro He
  iapply (wp_eStore c) $$ He; iintro He
  rw [show xM.view.readAt (Elt F) eRw.toLoadRect (xstg m ρ c) = xstg m ρ c from Memref.readAt_unit_zero (Elt F) cc0_stg0_0 hz2 _ _]
  iapply (wpc_ret c); iapply Hk $$ H1 H2 Hx He

theorem part3 {v2 v64 c8 : BitVec 32} {Kt : _ → sProp 𝕄} :
    Rec m ρ K ⊢ iprop(owz c (oBar c 7) -∗ dutyTok ER (barCell (mi c 6)) 0 6 -∗ (∃ f, cPts c 6 f) -∗ dutyTok ER (barCell (mi c 5)) 0 5 -∗ (∃ f, cPts c 5 f)
      -∗ (∀ r, owz c (oBar c 5) -∗ Kt r) -∗ wpc c (At (k0_part3 (F := F)) c v2 (SemArray.scalar (sig.barrier 0 rfl)) v64 c8) Kt) := by
  simp only [k0_part3_eq_skeleton]; unfold k0_part3_skel
  simp only [semSignalWord, Prog.lift, Prog.bind_op, Prog.bind_ret, Prog.pure_eq_ret]
  iintro #HR HO Ht6 Hc6 Ht5 Hc5 Hk
  iapply (wp_sig m ρ K c 6 7 6 rfl rfl (Fin.ext (devs_bar c).1)) $$ HR HO Ht6 Hc6; iintro HO
  iapply (wp_sig m ρ K c 5 6 5 rfl rfl (Fin.ext (devs_bar c).2.1)) $$ HR HO Ht5 Hc5; iintro HO
  iapply (wpc_ret c); iapply Hk $$ HO

theorem part4 {v2 v92 v93 : BitVec 32} {v94 v97 : BitVec 1} {Kt : _ → sProp 𝕄} :
    Rec m ρ K ⊢ iprop(owz c (oBar c 5) -∗ dutyTok ER (barCell (mi c 4)) 0 4 -∗ (∃ f, cPts c 4 f) -∗ dutyTok ER (barCell (mi c 3)) 0 3 -∗ (∃ f, cPts c 3 f)
      -∗ dutyTok ER (barCell (mi c 2)) 0 2 -∗ (∃ f, cPts c 2 f)
      -∗ (∀ r, owz c (oBar c 2) -∗ Kt r) -∗ wpc c (At (k0_part4 (F := F)) c v2 (SemArray.scalar (sig.barrier 0 rfl)) v92 v93 v94 v97) Kt) := by
  simp only [k0_part4_eq_skeleton]; unfold k0_part4_skel
  simp only [semSignalWord, Prog.lift, Prog.bind_op, Prog.bind_ret, Prog.pure_eq_ret]
  iintro #HR HO Ht4 Hc4 Ht3 Hc3 Ht2 Hc2 Hk
  iapply (wp_sig m ρ K c 4 5 4 rfl rfl (Fin.ext (devs_bar c).2.2.1)) $$ HR HO Ht4 Hc4; iintro HO
  iapply (wp_sig m ρ K c 3 4 3 rfl rfl (Fin.ext (devs_bar c).2.2.2.1)) $$ HR HO Ht3 Hc3; iintro HO
  iapply (wp_sig m ρ K c 2 3 2 rfl rfl (Fin.ext (devs_bar c).2.2.2.2.1)) $$ HR HO Ht2 Hc2; iintro HO
  iapply (wpc_ret c); iapply Hk $$ HO

theorem part5 {v2 v129 c8 : BitVec 32} {Kt : _ → sProp 𝕄} :
    Rec m ρ K ⊢ iprop(levAts L lv -∗ owz c (oBar c 2) -∗ dutyTok ER (barCell (mi c 1)) 0 1 -∗ (∃ f, cPts c 1 f) -∗ dutyTok ER (barCell (mi c 0)) 0 0 -∗ (∃ f, cPts c 0 f)
      -∗ cred (tallyAt (barCell c) () 7) -∗ atPos ER (barCell c) 0 ∅ 0
      -∗ (∀ r, owz c (oRecv c 7) -∗ semVal (barCell c) 0 -∗ (bigSep Finset.univ fun j => barPay (F := F) c j) -∗ Kt r)
      -∗ wpc c (At (k0_part5 (F := F)) c v2 (SemArray.scalar (sig.barrier 0 rfl)) v129 c8) Kt) := by
  simp only [k0_part5_eq_skeleton]; unfold k0_part5_skel
  simp only [semSignalWord, semWaitWord, Prog.lift, Prog.bind_op, Prog.bind_ret, Prog.pure_eq_ret]
  iintro #HR #Hl HO Ht1 Hc1 Ht0 Hc0 Hcr Ha Hk
  iapply (wp_sig m ρ K c 1 2 1 rfl rfl (Fin.ext (devs_bar c).2.2.2.2.2.1)) $$ HR HO Ht1 Hc1; iintro HO
  iapply (wp_sig m ρ K c 0 1 0 rfl rfl (Fin.ext (devs_bar c).2.2.2.2.2.2)) $$ HR HO Ht0 Hc0; iintro HO
  rw [show oBar c 0 = oRecv c 7 from rfl]
  iapply (wp_barWait m ρ K c) $$ HR Hl HO Hcr Ha; iintro ⟨HO, Hz, Hp⟩
  iapply (wpc_ret c); iapply Hk $$ HO Hz Hp

/-- What a device spends on copy `j`: the rows of the cast block it reads, the receiver's landing slot, the duties of the two cells. -/
def Out (c : Dev nD) (j : Fin 7) : sProp 𝕄 :=
  iprop(ePts c (pl c j) (e8 m ρ c) ∗ (∃ f, cPts (pl c j) j f) ∗ dutyTok ER (sendCell c j) 0 0 ∗ dutyTok ER (recvCell (pl c j) j) 0 0)

theorem wp_out {α : Type} {Q : α → sProp 𝕄} {k : PUnit → Prog (TpuEff nD τ sig (Elt F) Λ₀ .tc) α} (j : Fin 7) (p q : ℕ) (hp : p = 7 - j.val) (hq : q = 6 - j.val)
    {n : Dev nD} (hn : n = pl c j)
    {off : Fin 2 → ℕ} {inb : ∀ a, off a + S512x512.size a ≤ S4096x512.size a} (ho : off = ![512 * (pl c j).val, 0])
    {hsc : (cSlot j : Memref sig (Dev.tc n : Thread nD τ).2.kind .vmem S512x512 .fp8e4m3).view.ref.isScScratch = false}
    {hsrc : (eM.slice (Rect.unit (s := S4096x512) off S512x512.size inb) (fun _ => rfl)).view.WordExact} {hdst : (cSlot j).view.WordExact}
    {hsem : DmaTarget.Typed .vmem (.dma (recvS j)) (.remote (Dev.tc n : Thread nD τ) (cSlot j) (.dma (sendS j)) hsc)} :
    Rec m ρ K ⊢ iprop(owz c (oRecv c p) -∗ Out m ρ c j
      -∗ ((owz c (oRecv c q) ∗ cred (tallyAt (sendCell c j) () N)) -∗ wpc c (k ⟨⟩) Q)
        -∗ wpc c (.op (.enqueueDma (eM.slice (Rect.unit (s := S4096x512) off S512x512.size inb) (fun _ => rfl))
              (.remote (Dev.tc n : Thread nD τ) (cSlot j) (.dma (sendS j)) hsc) (.dma (recvS j)) hsrc hdst hsem) k) Q) := by
  subst hp hq
  unfold Out
  iintro #HR HO ⟨He, Hc, H1, H2⟩ Hk
  iapply (wp_send m ρ K c j hn ho) $$ HR HO He Hc H1 H2
  iexact Hk

theorem part6 {v2 v157 v158 : BitVec 32} {v159 v160 : BitVec 1} {Kt : _ → sProp 𝕄} :
    Rec m ρ K ⊢ iprop(owz c (oRecv c 7) -∗ Out m ρ c 0
      -∗ (owz c (oRecv c 6) -∗ cred (tallyAt (sendCell c 0) () N) -∗ Kt ⟨⟩) -∗ wpc c (At (k0_part6 (F := F)) c v2 v157 v158 v159 v160) Kt) := by
  simp only [k0_part6_eq_skeleton]; unfold k0_part6_skel
  simp only [Prog.lift, Prog.bind_op, Prog.bind_ret, Prog.pure_eq_ret]
  iintro #HR HO H0 Hk
  iapply (wp_out m ρ K c 0 7 6 rfl rfl (Fin.ext (devs_copy c).1) (off2_eq c 0)) $$ HR HO H0; iintro ⟨HO, H0⟩
  iapply (wpc_ret c); iapply Hk $$ HO H0

theorem part7 {v2 : BitVec 32} {Kt : _ → sProp 𝕄} :
    Rec m ρ K ⊢ iprop(owz c (oRecv c 6) -∗ Out m ρ c 1 -∗ Out m ρ c 2
      -∗ (∀ r, owz c (oRecv c 4) -∗ cred (tallyAt (sendCell c 1) () N) -∗ cred (tallyAt (sendCell c 2) () N) -∗ Kt r)
      -∗ wpc c (At (k0_part7 (F := F)) c v2) Kt) := by
  simp only [k0_part7_eq_skeleton]; unfold k0_part7_skel
  simp only [Prog.lift, Prog.bind_op, Prog.bind_ret, Prog.pure_eq_ret]
  iintro #HR HO H1 H2 Hk
  iapply (wp_out m ρ K c 1 6 5 rfl rfl (Fin.ext (devs_copy c).2.1) (off2_eq c 1)) $$ HR HO H1; iintro ⟨HO, H1⟩
  iapply (wp_out m ρ K c 2 5 4 rfl rfl (Fin.ext (devs_copy c).2.2.1) (off2_eq c 2)) $$ HR HO H2; iintro ⟨HO, H2⟩
  iapply (wpc_ret c); iapply Hk $$ HO H1 H2

theorem part8 {v2 v : BitVec 32} {Kt : _ → sProp 𝕄} :
    Rec m ρ K ⊢ iprop(owz c (oRecv c 4) -∗ Out m ρ c 3 -∗ Out m ρ c 4
      -∗ (∀ r, owz c (oRecv c 2) -∗ cred (tallyAt (sendCell c 3) () N) -∗ cred (tallyAt (sendCell c 4) () N) -∗ Kt r)
      -∗ wpc c (At (k0_part8 (F := F)) c v2 v) Kt) := by
  simp only [k0_part8_eq_skeleton]; unfold k0_part8_skel
  simp only [Prog.lift, Prog.bind_op, Prog.bind_ret, Prog.pure_eq_ret]
  iintro #HR HO H3 H4 Hk
  iapply (wp_out m ρ K c 3 4 3 rfl rfl (Fin.ext (devs_copy c).2.2.2.1) (off2_eq c 3)) $$ HR HO H3; iintro ⟨HO, H3⟩
  iapply (wp_out m ρ K c 4 3 2 rfl rfl (Fin.ext (devs_copy c).2.2.2.2.1) (off2_eq c 4)) $$ HR HO H4; iintro ⟨HO, H4⟩
  iapply (wpc_ret c); iapply Hk $$ HO H3 H4

theorem part9 {v2 v : BitVec 32} {Kt : _ → sProp 𝕄} :
    Rec m ρ K ⊢ iprop(owz c (oRecv c 2) -∗ Out m ρ c 5
      -∗ (∀ r, owz c (oRecv c 1) -∗ cred (tallyAt (sendCell c 5) () N) -∗ Kt r) -∗ wpc c (At (k0_part9 (F := F)) c v2 v) Kt) := by
  simp only [k0_part9_eq_skeleton]; unfold k0_part9_skel
  simp only [Prog.lift, Prog.bind_op, Prog.bind_ret, Prog.pure_eq_ret]
  iintro #HR HO H5 Hk
  iapply (wp_out m ρ K c 5 2 1 rfl rfl (Fin.ext (devs_copy c).2.2.2.2.2.1) (off2_eq c 5)) $$ HR HO H5; iintro ⟨HO, H5⟩
  iapply (wpc_ret c); iapply Hk $$ HO H5

theorem part10 {v2 v v' : BitVec 32} {Kt : _ → sProp 𝕄} :
    Rec m ρ K ⊢ iprop(owz c (oRecv c 1) -∗ Out m ρ c 6 -∗ Fly m ρ c 0 0 0 -∗ xPts m ρ c
      -∗ (owz c 0 -∗ cred (tallyAt (sendCell c 6) () N) -∗ Slot m ρ c 0 (wslot m ρ c 0 0) -∗ xPts m ρ c -∗ Kt (k0_pay2 (xch0 m ρ c) (wch m ρ c 0 0)))
      -∗ wpc c (At (k0_part10 (F := F)) c v2 v v') Kt) := by
  unfold xch0
  simp only [k0_part10_eq_skeleton]; unfold k0_part10_skel
  simp only [Prog.lift, Prog.bind_op, Prog.bind_ret, Prog.pure_eq_ret]
  iintro #HR HO H6 Hs Hx Hk
  iapply (wp_out m ρ K c 6 1 0 rfl rfl (Fin.ext (devs_copy c).2.2.2.2.2.2) (off2_eq c 6)) $$ HR HO H6; iintro ⟨HO, H6⟩
  rw [show oRecv c 0 = 0 from rfl]
  iapply (wp_wWait m ρ c 0 0 0) $$ Hs HO; iintro ⟨Hs, HO⟩
  iapply (wp_xLoad m ρ c) $$ Hx; iintro Hx
  iapply (wp_wLoad m ρ c 0 0 0) $$ Hs; iintro Hs
  iapply (wpc_ret c); iapply Hk $$ HO H6 Hs Hx

theorem part11 {v2 : BitVec 32} {v} {f f0} {Kt : PUnit → sProp 𝕄} :
    oPts c f ⊢ iprop(Slot m ρ c 0 f0 -∗ (oPts c v -∗ Fly m ρ c 0 1 1 -∗ Kt ⟨⟩) -∗ wpc c (At (k0_part11 (F := F)) c v2 v) Kt) := by
  simp only [k0_part11_eq_skeleton]; unfold k0_part11_skel
  simp only [Prog.lift, Prog.bind_op, Prog.bind_ret, Prog.pure_eq_ret]
  iintro Ho Hs Hk
  iapply (wp_oLoad c) $$ Ho; iintro Ho
  iapply (wp_oStore c) $$ Ho; iintro Ho
  iapply (wp_wIssue m ρ c 0 1 1 (off1_eq c 1 1)) $$ Hs; iintro Hs
  iapply (wpc_ret c); iapply Hk $$ Ho Hs

theorem part12 {v2 : BitVec 32} {f} {Kt : PUnit → sProp 𝕄} :
    owz c 0 ⊢ iprop(oPts c f -∗ Fly m ρ c 1 0 1 -∗ xPts m ρ c
      -∗ (owz c 0 -∗ oPts c (k0_pay3 (xch1 m ρ c) (wch m ρ c 0 1) f) -∗ Slot m ρ c 1 (wslot m ρ c 0 1) -∗ xPts m ρ c -∗ Kt ⟨⟩)
      -∗ wpc c (At (k0_part12 (F := F)) c v2) Kt) := by
  unfold xch1
  simp only [k0_part12_eq_skeleton]; unfold k0_part12_skel
  simp only [Prog.lift, Prog.bind_op, Prog.bind_ret, Prog.pure_eq_ret]
  iintro HO Ho Hs Hx Hk
  iapply (wp_wWait m ρ c 1 0 1) $$ Hs HO; iintro ⟨Hs, HO⟩
  iapply (wp_xLoad m ρ c) $$ Hx; iintro Hx
  iapply (wp_acc m ρ c 1 0 1) $$ Hs Ho; iintro ⟨Hs, Ho⟩
  iapply (wpc_ret c); iapply Hk $$ HO Ho Hs Hx

theorem part13 {v2 : BitVec 32} {f1} {Kt : _ → sProp 𝕄} :
    owz c 0 ⊢ iprop(Slot m ρ c 1 f1 -∗ Fly m ρ c 2 1 0
      -∗ (∀ r, owz c 0 -∗ Fly m ρ c 1 2 0 -∗ Slot m ρ c 2 (wslot m ρ c 1 0) -∗ Kt r) -∗ wpc c (At (k0_part13 (F := F)) c v2) Kt) := by
  simp only [k0_part13_eq_skeleton]; unfold k0_part13_skel
  simp only [Prog.lift, Prog.bind_op, Prog.bind_ret, Prog.pure_eq_ret]
  iintro HO H1 H2 Hk
  iapply (wp_wIssue m ρ c 1 2 0 (off1_eq c 2 0)) $$ H1; iintro H1
  iapply (wp_wWait m ρ c 2 1 0) $$ H2 HO; iintro ⟨H2, HO⟩
  iapply (wpc_ret c); iapply Hk $$ HO H1 H2

theorem part14 {v2 v : BitVec 32} {f} {Kt : PUnit → sProp 𝕄} :
    Rec m ρ K ⊢ iprop(owz c 0 -∗ oPts c f -∗ Slot m ρ c 2 (wslot m ρ c 1 0) -∗ Arr c 0
      -∗ (owz c 0 -∗ oPts c (k0_pay4 (cch m ρ c 0) (wch m ρ c 1 0) f) -∗ Slot m ρ c 2 (wslot m ρ c 1 0) -∗ Got m ρ c 0 -∗ Kt ⟨⟩)
      -∗ wpc c (At (k0_part14 (F := F)) v2 v) Kt) := by
  simp only [k0_part14_eq_skeleton]; unfold k0_part14_skel
  simp only [Prog.lift, Prog.bind_op, Prog.bind_ret, Prog.pure_eq_ret]
  iintro #HR HO Ho Hs Ha Hk
  iapply (wp_recvWait m ρ K c 0) $$ HR HO Ha; iintro ⟨HO, Hg⟩
  iapply (wp_gLoad m ρ c 0) $$ Hg; iintro Hg
  iapply (wp_acc m ρ c 2 1 0) $$ Hs Ho; iintro ⟨Hs, Ho⟩
  iapply (wpc_ret c); iapply Hk $$ HO Ho Hs Hg

theorem part15 {v2 : BitVec 32} {f2} {Kt : _ → sProp 𝕄} :
    owz c 0 ⊢ iprop(Slot m ρ c 2 f2 -∗ Fly m ρ c 0 1 1 -∗ Got m ρ c 0
      -∗ (owz c 0 -∗ Fly m ρ c 2 2 1 -∗ Slot m ρ c 0 (wslot m ρ c 1 1) -∗ Got m ρ c 0 -∗ Kt (k0_pay5 (cch m ρ c 0) (wch m ρ c 1 1)))
      -∗ wpc c (At (k0_part15 (F := F)) c v2) Kt) := by
  simp only [k0_part15_eq_skeleton]; unfold k0_part15_skel
  simp only [Prog.lift, Prog.bind_op, Prog.bind_ret, Prog.pure_eq_ret]
  iintro HO H2 H0 Hg Hk
  iapply (wp_wIssue m ρ c 2 2 1 (off1_eq c 2 1)) $$ H2; iintro H2
  iapply (wp_wWait m ρ c 0 1 1) $$ H0 HO; iintro ⟨H0, HO⟩
  iapply (wp_gLoad m ρ c 0) $$ Hg; iintro Hg
  iapply (wp_wLoad m ρ c 0 1 1) $$ H0; iintro H0
  iapply (wpc_ret c); iapply Hk $$ HO H2 H0 Hg

theorem part16 {v2 : BitVec 32} {v} {f f0} {Kt : _ → sProp 𝕄} :
    oPts c f ⊢ iprop(Slot m ρ c 0 f0 -∗ (∀ r, oPts c (k0_pay6 v f) -∗ Fly m ρ c 0 3 0 -∗ Kt r) -∗ wpc c (At (k0_part16 (F := F)) c v2 v) Kt) := by
  simp only [k0_part16_eq_skeleton]; unfold k0_part16_skel
  simp only [Prog.lift, Prog.bind_op, Prog.bind_ret, Prog.pure_eq_ret]
  iintro Ho Hs Hk
  iapply (wp_oLoad c) $$ Ho; iintro Ho
  iapply (wp_oLoad c) $$ Ho; iintro Ho
  iapply (wp_oStore c) $$ Ho; iintro Ho
  iapply (wp_wIssue m ρ c 0 3 0 (off1_eq c 3 0)) $$ Hs; iintro Hs
  iapply (wpc_ret c); iapply Hk $$ Ho Hs

theorem part17 {v2 v : BitVec 32} {Kt : _ → sProp 𝕄} :
    Rec m ρ K ⊢ iprop(owz c 0 -∗ Fly m ρ c 1 2 0 -∗ Arr c 1
      -∗ (owz c 0 -∗ Slot m ρ c 1 (wslot m ρ c 2 0) -∗ Got m ρ c 1 -∗ Kt (k0_pay7 (cch m ρ c 1))) -∗ wpc c (At (k0_part17 (F := F)) c v2 v) Kt) := by
  simp only [k0_part17_eq_skeleton]; unfold k0_part17_skel
  simp only [Prog.lift, Prog.bind_op, Prog.bind_ret, Prog.pure_eq_ret]
  iintro #HR HO Hs Ha Hk
  iapply (wp_wWait m ρ c 1 2 0) $$ Hs HO; iintro ⟨Hs, HO⟩
  iapply (wp_recvWait m ρ K c 1) $$ HR HO Ha; iintro ⟨HO, Hg⟩
  iapply (wp_gLoad m ρ c 1) $$ Hg; iintro Hg
  iapply (wpc_ret c); iapply Hk $$ HO Hs Hg

theorem part18 {v2 : BitVec 32} {v} {f} {Kt : _ → sProp 𝕄} :
    oPts c f ⊢ iprop(Slot m ρ c 1 (wslot m ρ c 2 0) -∗ (∀ r, oPts c (k0_pay8 v (wch m ρ c 2 0) f) -∗ Fly m ρ c 1 3 1 -∗ Kt r)
      -∗ wpc c (At (k0_part18 (F := F)) c v2 v) Kt) := by
  simp only [k0_part18_eq_skeleton]; unfold k0_part18_skel
  simp only [Prog.lift, Prog.bind_op, Prog.bind_ret, Prog.pure_eq_ret]
  iintro Ho Hs Hk
  iapply (wp_acc m ρ c 1 2 0) $$ Hs Ho; iintro ⟨Hs, Ho⟩
  iapply (wp_wIssue m ρ c 1 3 1 (off1_eq c 3 1)) $$ Hs; iintro Hs
  iapply (wpc_ret c); iapply Hk $$ Ho Hs

theorem part19 {v2 a1 a2 : BitVec 32} {b1 b2 b3 : BitVec 1} {f} {Kt : _ → sProp 𝕄} :
    owz c 0 ⊢ iprop(oPts c f -∗ Fly m ρ c 2 2 1 -∗ Got m ρ c 1
      -∗ (∀ r, owz c 0 -∗ oPts c (k0_pay9 (cch m ρ c 1) (wch m ρ c 2 1) f) -∗ Slot m ρ c 2 (wslot m ρ c 2 1) -∗ Got m ρ c 1 -∗ Kt r)
      -∗ wpc c (At (k0_part19 (F := F)) c v2 a1 a2 b1 b2 b3) Kt) := by
  simp only [k0_part19_eq_skeleton]; unfold k0_part19_skel
  simp only [Prog.lift, Prog.bind_op, Prog.bind_ret, Prog.pure_eq_ret]
  iintro HO Ho Hs Hg Hk
  iapply (wp_wWait m ρ c 2 2 1) $$ Hs HO; iintro ⟨Hs, HO⟩
  iapply (wp_gLoad m ρ c 1) $$ Hg; iintro Hg
  iapply (wp_acc m ρ c 2 2 1) $$ Hs Ho; iintro ⟨Hs, Ho⟩
  iapply (wpc_ret c); iapply Hk $$ HO Ho Hs Hg

theorem part20 {v2 v : BitVec 32} {f2} {Kt : _ → sProp 𝕄} :
    owz c 0 ⊢ iprop(Slot m ρ c 2 f2 -∗ Fly m ρ c 0 3 0
      -∗ (∀ r, owz c 0 -∗ Fly m ρ c 2 4 0 -∗ Slot m ρ c 0 (wslot m ρ c 3 0) -∗ Kt r) -∗ wpc c (At (k0_part20 (F := F)) c v2 v) Kt) := by
  simp only [k0_part20_eq_skeleton]; unfold k0_part20_skel
  simp only [Prog.lift, Prog.bind_op, Prog.bind_ret, Prog.pure_eq_ret]
  iintro HO H2 H0 Hk
  iapply (wp_wIssue m ρ c 2 4 0 (off1_eq c 4 0)) $$ H2; iintro H2
  iapply (wp_wWait m ρ c 0 3 0) $$ H0 HO; iintro ⟨H0, HO⟩
  iapply (wpc_ret c); iapply Hk $$ HO H2 H0

theorem part21 {v2 a1 a2 : BitVec 32} {b1 b2 : BitVec 1} {f} {Kt : _ → sProp 𝕄} :
    Rec m ρ K ⊢ iprop(owz c 0 -∗ oPts c f -∗ Slot m ρ c 0 (wslot m ρ c 3 0) -∗ Arr c 2
      -∗ (∀ r, owz c 0 -∗ oPts c (k0_pay10 (cch m ρ c 2) (wch m ρ c 3 0) f) -∗ Slot m ρ c 0 (wslot m ρ c 3 0) -∗ Got m ρ c 2 -∗ Kt r)
      -∗ wpc c (At (k0_part21 (F := F)) v2 a1 a2 b1 b2) Kt) := by
  simp only [k0_part21_eq_skeleton]; unfold k0_part21_skel
  simp only [Prog.lift, Prog.bind_op, Prog.bind_ret, Prog.pure_eq_ret]
  iintro #HR HO Ho Hs Ha Hk
  iapply (wp_recvWait m ρ K c 2) $$ HR HO Ha; iintro ⟨HO, Hg⟩
  iapply (wp_gLoad m ρ c 2) $$ Hg; iintro Hg
  iapply (wp_acc m ρ c 0 3 0) $$ Hs Ho; iintro ⟨Hs, Ho⟩
  iapply (wpc_ret c); iapply Hk $$ HO Ho Hs Hg

theorem part22 {v2 a1 a2 : BitVec 32} {b1 b2 : BitVec 1} {f0} {Kt : _ → sProp 𝕄} :
    owz c 0 ⊢ iprop(Slot m ρ c 0 f0 -∗ Fly m ρ c 1 3 1 -∗ Got m ρ c 2
      -∗ (owz c 0 -∗ Fly m ρ c 0 4 1 -∗ Slot m ρ c 1 (wslot m ρ c 3 1) -∗ Got m ρ c 2 -∗ Kt (k0_pay11 (cch m ρ c 2)))
      -∗ wpc c (At (k0_part22 (F := F)) c v2 a1 a2 b1 b2) Kt) := by
  simp only [k0_part22_eq_skeleton]; unfold k0_part22_skel
  simp only [Prog.lift, Prog.bind_op, Prog.bind_ret, Prog.pure_eq_ret]
  iintro HO H0 H1 Hg Hk
  iapply (wp_wIssue m ρ c 0 4 1 (off1_eq c 4 1)) $$ H0; iintro H0
  iapply (wp_wWait m ρ c 1 3 1) $$ H1 HO; iintro ⟨H1, HO⟩
  iapply (wp_gLoad m ρ c 2) $$ Hg; iintro Hg
  iapply (wpc_ret c); iapply Hk $$ HO H0 H1 Hg

theorem part23 {v2 : BitVec 32} {v} {f} {Kt : _ → sProp 𝕄} :
    oPts c f ⊢ iprop(Slot m ρ c 1 (wslot m ρ c 3 1) -∗ (∀ r, oPts c (k0_pay12 v (wch m ρ c 3 1) f) -∗ Fly m ρ c 1 5 0 -∗ Kt r)
      -∗ wpc c (At (k0_part23 (F := F)) c v2 v) Kt) := by
  simp only [k0_part23_eq_skeleton]; unfold k0_part23_skel
  simp only [Prog.lift, Prog.bind_op, Prog.bind_ret, Prog.pure_eq_ret]
  iintro Ho Hs Hk
  iapply (wp_acc m ρ c 1 3 1) $$ Hs Ho; iintro ⟨Hs, Ho⟩
  iapply (wp_wIssue m ρ c 1 5 0 (off1_eq c 5 0)) $$ Hs; iintro Hs
  iapply (wpc_ret c); iapply Hk $$ Ho Hs

theorem part24 {v2 a1 a2 : BitVec 32} {b1 : BitVec 1} {Kt : PUnit → sProp 𝕄} :
    Rec m ρ K ⊢ iprop(owz c 0 -∗ Fly m ρ c 2 4 0 -∗ Arr c 3
      -∗ (owz c 0 -∗ Slot m ρ c 2 (wslot m ρ c 4 0) -∗ Got m ρ c 3 -∗ Kt ⟨⟩) -∗ wpc c (At (k0_part24 (F := F)) c v2 a1 a2 b1) Kt) := by
  simp only [k0_part24_eq_skeleton]; unfold k0_part24_skel
  simp only [Prog.lift, Prog.bind_op, Prog.bind_ret, Prog.pure_eq_ret]
  iintro #HR HO Hs Ha Hk
  iapply (wp_wWait m ρ c 2 4 0) $$ Hs HO; iintro ⟨Hs, HO⟩
  iapply (wp_recvWait m ρ K c 3) $$ HR HO Ha; iintro ⟨HO, Hg⟩
  iapply (wpc_ret c); iapply Hk $$ HO Hs Hg

theorem part25 {v2 : BitVec 32} {f} {Kt : _ → sProp 𝕄} :
    oPts c f ⊢ iprop(Slot m ρ c 2 (wslot m ρ c 4 0) -∗ Got m ρ c 3
      -∗ (∀ r, oPts c (k0_pay13 (cch m ρ c 3) (wch m ρ c 4 0) f) -∗ Fly m ρ c 2 5 1 -∗ Got m ρ c 3 -∗ Kt r)
      -∗ wpc c (At (k0_part25 (F := F)) c v2) Kt) := by
  simp only [k0_part25_eq_skeleton]; unfold k0_part25_skel
  simp only [Prog.lift, Prog.bind_op, Prog.bind_ret, Prog.pure_eq_ret]
  iintro Ho Hs Hg Hk
  iapply (wp_gLoad m ρ c 3) $$ Hg; iintro Hg
  iapply (wp_acc m ρ c 2 4 0) $$ Hs Ho; iintro ⟨Hs, Ho⟩
  iapply (wp_wIssue m ρ c 2 5 1 (off1_eq c 5 1)) $$ Hs; iintro Hs
  iapply (wpc_ret c); iapply Hk $$ Ho Hs Hg

theorem part26 {v2 a1 a2 a3 : BitVec 32} {f} {Kt : _ → sProp 𝕄} :
    owz c 0 ⊢ iprop(oPts c f -∗ Fly m ρ c 0 4 1 -∗ Got m ρ c 3
      -∗ (∀ r, owz c 0 -∗ oPts c (k0_pay14 (cch m ρ c 3) (wch m ρ c 4 1) f) -∗ Slot m ρ c 0 (wslot m ρ c 4 1) -∗ Got m ρ c 3 -∗ Kt r)
      -∗ wpc c (At (k0_part26 (F := F)) c v2 a1 a2 a3) Kt) := by
  simp only [k0_part26_eq_skeleton]; unfold k0_part26_skel
  simp only [Prog.lift, Prog.bind_op, Prog.bind_ret, Prog.pure_eq_ret]
  iintro HO Ho Hs Hg Hk
  iapply (wp_wWait m ρ c 0 4 1) $$ Hs HO; iintro ⟨Hs, HO⟩
  iapply (wp_gLoad m ρ c 3) $$ Hg; iintro Hg
  iapply (wp_acc m ρ c 0 4 1) $$ Hs Ho; iintro ⟨Hs, Ho⟩
  iapply (wpc_ret c); iapply Hk $$ HO Ho Hs Hg

theorem part27 {v2 a1 a2 : BitVec 32} {f0} {Kt : _ → sProp 𝕄} :
    owz c 0 ⊢ iprop(Slot m ρ c 0 f0 -∗ Fly m ρ c 1 5 0
      -∗ (∀ r, owz c 0 -∗ Fly m ρ c 0 6 0 -∗ Slot m ρ c 1 (wslot m ρ c 5 0) -∗ Kt r) -∗ wpc c (At (k0_part27 (F := F)) c v2 a1 a2) Kt) := by
  simp only [k0_part27_eq_skeleton]; unfold k0_part27_skel
  simp only [Prog.lift, Prog.bind_op, Prog.bind_ret, Prog.pure_eq_ret]
  iintro HO H0 H1 Hk
  iapply (wp_wIssue m ρ c 0 6 0 (off1_eq c 6 0)) $$ H0; iintro H0
  iapply (wp_wWait m ρ c 1 5 0) $$ H1 HO; iintro ⟨H1, HO⟩
  iapply (wpc_ret c); iapply Hk $$ HO H0 H1

theorem part28 {v2 v : BitVec 32} {f} {Kt : _ → sProp 𝕄} :
    Rec m ρ K ⊢ iprop(owz c 0 -∗ oPts c f -∗ Slot m ρ c 1 (wslot m ρ c 5 0) -∗ Arr c 4
      -∗ (∀ r, owz c 0 -∗ oPts c (k0_pay15 (cch m ρ c 4) (wch m ρ c 5 0) f) -∗ Slot m ρ c 1 (wslot m ρ c 5 0) -∗ Got m ρ c 4 -∗ Kt r)
      -∗ wpc c (At (k0_part28 (F := F)) v2 v) Kt) := by
  simp only [k0_part28_eq_skeleton]; unfold k0_part28_skel
  simp only [Prog.lift, Prog.bind_op, Prog.bind_ret, Prog.pure_eq_ret]
  iintro #HR HO Ho Hs Ha Hk
  iapply (wp_recvWait m ρ K c 4) $$ HR HO Ha; iintro ⟨HO, Hg⟩
  iapply (wp_gLoad m ρ c 4) $$ Hg; iintro Hg
  iapply (wp_acc m ρ c 1 5 0) $$ Hs Ho; iintro ⟨Hs, Ho⟩
  iapply (wpc_ret c); iapply Hk $$ HO Ho Hs Hg

theorem part29 {v2 v : BitVec 32} {f1} {Kt : PUnit → sProp 𝕄} :
    Slot m ρ c 1 f1 ⊢ iprop((Fly m ρ c 1 6 1 -∗ Kt ⟨⟩) -∗ wpc c (At (k0_part29 (F := F)) c v2 v) Kt) := by
  simp only [k0_part29_eq_skeleton]; unfold k0_part29_skel
  simp only [Prog.lift, Prog.bind_op, Prog.bind_ret, Prog.pure_eq_ret]
  iintro Hs Hk
  iapply (wp_wIssue m ρ c 1 6 1 (off1_eq c 6 1)) $$ Hs; iintro Hs
  iapply (wpc_ret c); iapply Hk $$ Hs

theorem part30 {v2 : BitVec 32} {f} {Kt : PUnit → sProp 𝕄} :
    owz c 0 ⊢ iprop(oPts c f -∗ Fly m ρ c 2 5 1 -∗ Got m ρ c 4
      -∗ (owz c 0 -∗ oPts c (k0_pay16 (cch m ρ c 4) (wch m ρ c 5 1) f) -∗ Fly m ρ c 2 7 0 -∗ Got m ρ c 4 -∗ Kt ⟨⟩)
      -∗ wpc c (At (k0_part30 (F := F)) c v2) Kt) := by
  simp only [k0_part30_eq_skeleton]; unfold k0_part30_skel
  simp only [Prog.lift, Prog.bind_op, Prog.bind_ret, Prog.pure_eq_ret]
  iintro HO Ho Hs Hg Hk
  iapply (wp_wWait m ρ c 2 5 1) $$ Hs HO; iintro ⟨Hs, HO⟩
  iapply (wp_gLoad m ρ c 4) $$ Hg; iintro Hg
  iapply (wp_acc m ρ c 2 5 1) $$ Hs Ho; iintro ⟨Hs, Ho⟩
  iapply (wp_wIssue m ρ c 2 7 0 (off1_eq c 7 0)) $$ Hs; iintro Hs
  iapply (wpc_ret c); iapply Hk $$ HO Ho Hs Hg

theorem part31 {v2 : BitVec 32} {Kt : PUnit → sProp 𝕄} :
    owz c 0 ⊢ iprop(Fly m ρ c 0 6 0 -∗ (owz c 0 -∗ Slot m ρ c 0 (wslot m ρ c 6 0) -∗ Kt ⟨⟩) -∗ wpc c (At (k0_part31 (F := F)) c v2) Kt) := by
  simp only [k0_part31_eq_skeleton]; unfold k0_part31_skel
  simp only [Prog.lift, Prog.bind_op, Prog.bind_ret, Prog.pure_eq_ret]
  iintro HO Hs Hk
  iapply (wp_wWait m ρ c 0 6 0) $$ Hs HO; iintro ⟨Hs, HO⟩
  iapply (wpc_ret c); iapply Hk $$ HO Hs

theorem part32 {v2 : BitVec 32} {f} {Kt : PUnit → sProp 𝕄} :
    Rec m ρ K ⊢ iprop(owz c 0 -∗ oPts c f -∗ Slot m ρ c 0 (wslot m ρ c 6 0) -∗ Arr c 5
      -∗ (owz c 0 -∗ oPts c (k0_pay17 (cch m ρ c 5) (wch m ρ c 6 0) f) -∗ Slot m ρ c 0 (wslot m ρ c 6 0) -∗ Got m ρ c 5 -∗ Kt ⟨⟩)
      -∗ wpc c (At (k0_part32 (F := F)) v2) Kt) := by
  simp only [k0_part32_eq_skeleton]; unfold k0_part32_skel
  simp only [Prog.lift, Prog.bind_op, Prog.bind_ret, Prog.pure_eq_ret]
  iintro #HR HO Ho Hs Ha Hk
  iapply (wp_recvWait m ρ K c 5) $$ HR HO Ha; iintro ⟨HO, Hg⟩
  iapply (wp_gLoad m ρ c 5) $$ Hg; iintro Hg
  iapply (wp_acc m ρ c 0 6 0) $$ Hs Ho; iintro ⟨Hs, Ho⟩
  iapply (wpc_ret c); iapply Hk $$ HO Ho Hs Hg

theorem part33 {v2 : BitVec 32} {f f0} {Kt : _ → sProp 𝕄} :
    owz c 0 ⊢ iprop(oPts c f -∗ Slot m ρ c 0 f0 -∗ Fly m ρ c 1 6 1 -∗ Got m ρ c 5
      -∗ (owz c 0 -∗ oPts c f -∗ Fly m ρ c 0 7 1 -∗ Slot m ρ c 1 (wslot m ρ c 6 1) -∗ Got m ρ c 5 -∗ Kt (k0_pay18 (cch m ρ c 5) (wch m ρ c 6 1) f))
      -∗ wpc c (At (k0_part33 (F := F)) c v2) Kt) := by
  simp only [k0_part33_eq_skeleton]; unfold k0_part33_skel
  simp only [Prog.lift, Prog.bind_op, Prog.bind_ret, Prog.pure_eq_ret]
  iintro HO Ho H0 H1 Hg Hk
  iapply (wp_wIssue m ρ c 0 7 1 (off1_eq c 7 1)) $$ H0; iintro H0
  iapply (wp_wWait m ρ c 1 6 1) $$ H1 HO; iintro ⟨H1, HO⟩
  iapply (wp_gLoad m ρ c 5) $$ Hg; iintro Hg
  iapply (wp_wLoad m ρ c 1 6 1) $$ H1; iintro H1
  iapply (wp_oLoad c) $$ Ho; iintro Ho
  iapply (wpc_ret c); iapply Hk $$ HO Ho H0 H1 Hg

theorem part34 {v2 : BitVec 32} {v} {f} {Kt : _ → sProp 𝕄} :
    owz c 0 ⊢ iprop(oPts c f -∗ Fly m ρ c 2 7 0 -∗ (∀ r, owz c 0 -∗ oPts c v -∗ Slot m ρ c 2 (wslot m ρ c 7 0) -∗ Kt r)
      -∗ wpc c (At (k0_part34 (F := F)) c v2 v) Kt) := by
  simp only [k0_part34_eq_skeleton]; unfold k0_part34_skel
  simp only [Prog.lift, Prog.bind_op, Prog.bind_ret, Prog.pure_eq_ret]
  iintro HO Ho Hs Hk
  iapply (wp_oLoad c) $$ Ho; iintro Ho
  iapply (wp_oStore c) $$ Ho; iintro Ho
  iapply (wp_wWait m ρ c 2 7 0) $$ Hs HO; iintro ⟨Hs, HO⟩
  iapply (wpc_ret c); iapply Hk $$ HO Ho Hs

theorem part35 {v2 a1 a2 : BitVec 32} {f} {Kt : PUnit → sProp 𝕄} :
    Rec m ρ K ⊢ iprop(owz c 0 -∗ oPts c f -∗ Slot m ρ c 2 (wslot m ρ c 7 0) -∗ Arr c 6
      -∗ (owz c 0 -∗ oPts c (k0_pay19 (cch m ρ c 6) (wch m ρ c 7 0) f) -∗ Slot m ρ c 2 (wslot m ρ c 7 0) -∗ Got m ρ c 6 -∗ Kt ⟨⟩)
      -∗ wpc c (At (k0_part35 (F := F)) v2 a1 a2) Kt) := by
  simp only [k0_part35_eq_skeleton]; unfold k0_part35_skel
  simp only [Prog.lift, Prog.bind_op, Prog.bind_ret, Prog.pure_eq_ret]
  iintro #HR HO Ho Hs Ha Hk
  iapply (wp_recvWait m ρ K c 6) $$ HR HO Ha; iintro ⟨HO, Hg⟩
  iapply (wp_gLoad m ρ c 6) $$ Hg; iintro Hg
  iapply (wp_acc m ρ c 2 7 0) $$ Hs Ho; iintro ⟨Hs, Ho⟩
  iapply (wpc_ret c); iapply Hk $$ HO Ho Hs Hg

theorem word1_sx (i) : sxM.view.readAt (Elt F) (Rect.unit (s := S1) ![0] S1.size inb_S1_S1_0).toLoadRect (sx m ρ c) i = word1 (sx m ρ c) :=
  congrArg (sx m ρ c) (funext fun a => by fin_cases a; exact Subsingleton.elim (α := Fin 1) _ _)
theorem word1_sw (i) : swM.view.readAt (Elt F) (Rect.unit (s := S1) ![0] S1.size inb_S1_S1_0).toLoadRect (sw m ρ c) i = word1 (sw m ρ c) :=
  congrArg (sw m ρ c) (funext fun a => by fin_cases a; exact Subsingleton.elim (α := Fin 1) _ _)

theorem part36 {f} {Kt : PUnit → sProp 𝕄} :
    Rec m ρ K ⊢ iprop(owz c 0 -∗ oPts c f -∗ Fly m ρ c 0 7 1 -∗ Got m ρ c 6 -∗ sxPts m ρ c -∗ swPts m ρ c -∗ Snt c 0
      -∗ (owz c 0 -∗ oPts c (k0_pay21 (k0_pay20 (cch m ρ c 6) (wch m ρ c 7 1) f) (word1 (sx m ρ c)) (word1 (sw m ρ c)))
        -∗ Slot m ρ c 0 (wslot m ρ c 7 1) -∗ Got m ρ c 6 -∗ sxPts m ρ c -∗ swPts m ρ c -∗ Back m ρ c 0 -∗ Kt ⟨⟩)
      -∗ wpc c (At (k0_part36 (F := F)) c) Kt) := by
  simp only [k0_part36_eq_skeleton]; unfold k0_part36_skel
  simp only [smemLoad, smemLoadElt, Prog.lift, Prog.bind_op, Prog.bind_ret, Prog.pure_eq_ret]
  iintro #HR HO Ho Hs Hg Hx Hw Hb Hk
  iapply (wp_wWait m ρ c 0 7 1) $$ Hs HO; iintro ⟨Hs, HO⟩
  iapply (wp_gLoad m ρ c 6) $$ Hg; iintro Hg
  iapply (wp_acc m ρ c 0 7 1) $$ Hs Ho; iintro ⟨Hs, Ho⟩
  iapply (wp_oLoad c) $$ Ho; iintro Ho
  unfold sxPts swPts
  iapply (wp_load 𝒱₀ (c : Thread nD τ) none Set.univ (m := sxM) (Finset.subset_univ _)) $$ Hx; iintro Hx
  iapply (wp_load 𝒱₀ (c : Thread nD τ) none Set.univ (m := swM) (Finset.subset_univ _)) $$ Hw; iintro Hw
  rw [word1_sx, word1_sw]
  iapply (wp_oLoad c) $$ Ho; iintro Ho
  iapply (wp_oStore c) $$ Ho; iintro Ho
  iapply (wp_sendWait m ρ K c 0) $$ HR HO Hb; iintro ⟨HO, Hb⟩
  iapply (wpc_ret c); iapply Hk $$ HO Ho Hs Hg Hx Hw Hb

theorem part37 {Kt : PUnit → sProp 𝕄} :
    Rec m ρ K ⊢ iprop(owz c 0 -∗ Snt c 1 -∗ Snt c 2 -∗ Snt c 3 -∗ Snt c 4
      -∗ (owz c 0 -∗ Back m ρ c 1 -∗ Back m ρ c 2 -∗ Back m ρ c 3 -∗ Back m ρ c 4 -∗ Kt ⟨⟩) -∗ wpc c (At (k0_part37 (F := F)) c) Kt) := by
  simp only [k0_part37_eq_skeleton]; unfold k0_part37_skel
  simp only [Prog.lift, Prog.bind_op, Prog.bind_ret, Prog.pure_eq_ret]
  iintro #HR HO H1 H2 H3 H4 Hk
  iapply (wp_sendWait m ρ K c 1) $$ HR HO H1; iintro ⟨HO, H1⟩
  iapply (wp_sendWait m ρ K c 2) $$ HR HO H2; iintro ⟨HO, H2⟩
  iapply (wp_sendWait m ρ K c 3) $$ HR HO H3; iintro ⟨HO, H3⟩
  iapply (wp_sendWait m ρ K c 4) $$ HR HO H4; iintro ⟨HO, H4⟩
  iapply (wpc_ret c); iapply Hk $$ HO H1 H2 H3 H4

end Parts
end Cert.KProof
end
-- ==== Proof.Run.lean ====
/-
# The body on one device

The buffers cut into the pieces the exchange moves, and the parts of the body composed at a symbolic device `c`.
-/
module

public import proofs.«01_k».proof.Proof.Body

@[expose] public section

set_option maxRecDepth 16384

noncomputable section

namespace Cert.KProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers in pieces -/

theorem seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

omit [FloatOps F] in
theorem e_disj (d d' : Dev nD) (h : d ≠ d') : Disjoint (eSet d) (eSet d') :=
  Ring.lead_disjoint (s := S4096x512) 0 512 (fun d : Fin 8 => ![512 * d.val, 0]) S512x512.size eBlk_inb (fun _ => rfl) rfl d d' h
omit [FloatOps F] in
theorem e_cover : Finset.univ.biUnion eSet = Finset.univ :=
  Ring.lead_cover (s := S4096x512) 0 512 (fun d : Fin 8 => ![512 * d.val, 0]) S512x512.size eBlk_inb (fun _ => rfl)
    (fun d a ha => by fin_cases a; exacts [absurd rfl ha, rfl]) rfl (fun a ha => by fin_cases a; exacts [absurd rfl ha, rfl]) rfl
omit [FloatOps F] in
theorem c_disj (j j' : Fin 7) (h : j ≠ j') : Disjoint (cSet j) (cSet j') :=
  Ring.lead_disjoint (s := S7x512x512) 0 1 (fun j : Fin 7 => ![j.val, 0, 0]) S1x512x512.size cSlot_inb (fun _ => (Nat.one_mul _).symm) rfl j j' h
omit [FloatOps F] in
theorem c_cover : Finset.univ.biUnion cSet = Finset.univ :=
  Ring.lead_cover (s := S7x512x512) 0 1 (fun j : Fin 7 => ![j.val, 0, 0]) S1x512x512.size cSlot_inb (fun _ => (Nat.one_mul _).symm)
    (fun d a ha => by fin_cases a; exacts [absurd rfl ha, rfl, rfl]) rfl (fun a ha => by fin_cases a; exacts [absurd rfl ha, rfl, rfl]) rfl
omit [FloatOps F] in
theorem b_disj (s s' : Fin 3) (h : s ≠ s') : Disjoint (bSet s) (bSet s') :=
  Ring.lead_disjoint (s := S3x256x8192) 0 1 (fun s : Fin 3 => ![s.val, 0, 0]) S1x256x8192.size bSlot_inb (fun _ => (Nat.one_mul _).symm) rfl s s' h
omit [FloatOps F] in
theorem b_cover : Finset.univ.biUnion bSet = Finset.univ :=
  Ring.lead_cover (s := S3x256x8192) 0 1 (fun s : Fin 3 => ![s.val, 0, 0]) S1x256x8192.size bSlot_inb (fun _ => (Nat.one_mul _).symm)
    (fun d a ha => by fin_cases a; exacts [absurd rfl ha, rfl, rfl]) rfl (fun a ha => by fin_cases a; exacts [absurd rfl ha, rfl, rfl]) rfl

/-- The cast block is the row block kept and the seven row blocks sent. -/
theorem e_split (c : Dev nD) (f : (cc0_scratch0 : Ref sig .tc).ty.Contents (Elt F)) :
    (ePtsW c f : sProp 𝕄) = iprop(ePts c c f ∗ bigSep Finset.univ fun j => ePts c (pl c j) f) := by
  unfold ePtsW ePts
  rw [Ring.pointsTo_blocks (ℓ := (c : Thread nD τ).loc cc0_scratch0) eSet e_disj e_cover f, univ_eq c, BI.bigSep_insert (by
    simp only [Finset.mem_map, Finset.mem_univ, true_and, Function.Embedding.coeFn_mk, not_exists]; exact fun j => pl_ne c j), BI.bigSep_map]
  rfl

theorem c_split (c : Dev nD) (f : (cc0_scratch1 : Ref sig .tc).ty.Contents (Elt F)) :
    (((c : Thread nD τ).loc cc0_scratch1) ↦{fullShare} f : sProp 𝕄) = bigSep Finset.univ fun j => cPts c j f := by
  unfold cPts
  exact Ring.pointsTo_blocks (ℓ := (c : Thread nD τ).loc cc0_scratch1) cSet c_disj c_cover f

theorem b_split (c : Dev nD) (f : (cc0_scratch2 : Ref sig .tc).ty.Contents (Elt F)) :
    (((c : Thread nD τ).loc cc0_scratch2) ↦{fullShare} f : sProp 𝕄) = iprop(bPts c 0 f ∗ bPts c 1 f ∗ bPts c 2 f) := by
  unfold bPts
  rw [Ring.pointsTo_blocks (ℓ := (c : Thread nD τ).loc cc0_scratch2) bSet b_disj b_cover f]
  exact three _

theorem b_join (c : Dev nD) (f₀ f₁ f₂ : (cc0_scratch2 : Ref sig .tc).ty.Contents (Elt F)) :
    (iprop(bPts c 0 f₀ ∗ bPts c 1 f₁ ∗ bPts c 2 f₂) : sProp 𝕄) ⊢ iprop(∃ f, ((c : Thread nD τ).loc cc0_scratch2) ↦{fullShare} f) := by
  refine BI.Entails.trans ?_ (Ring.pointsTo_blocks_join_exists (ℓ := (c : Thread nD τ).loc cc0_scratch2) bSet b_disj b_cover f₀)
  rw [three]
  unfold bPts
  show (_ : sProp 𝕄) ⊢ _
  iintro ⟨H0, H1, H2⟩
  isplitl [H0]; · iexists f₀; iexact H0
  isplitl [H1]; · iexists f₁; iexact H1
  iexists f₂; iexact H2

/-- `w` whole is the three shares the ring slots read with. -/
theorem w_split (c : Dev nD) : (((c : Thread nD τ).loc main_arg1) ↦{fullShare} wv m ρ c : sProp 𝕄)
    ⊣⊢ iprop((((c : Thread nD τ).loc main_arg1) ↦{qs 0} wv m ρ c) ∗ (((c : Thread nD τ).loc main_arg1) ↦{qs 1} wv m ρ c)
        ∗ (((c : Thread nD τ).loc main_arg1) ↦{qs 2} wv m ρ c)) := by
  have h1 := pointsTo_share (ℓ := (c : Thread nD τ).loc main_arg1) (I := Finset.univ) (f := wv m ρ c) (Ix := Unit) (Name := ℕ) (U := UU) (Lvl := ℕ)
    (PosShare.mem_left_op_right fullShare)
  have h2 := pointsTo_share (ℓ := (c : Thread nD τ).loc main_arg1) (I := Finset.univ) (f := wv m ρ c) (Ix := Unit) (Name := ℕ) (U := UU) (Lvl := ℕ)
    (PosShare.mem_left_op_right fullShare.right)
  constructor
  · iintro H
    ihave H := h1.1 $$ H; icases H with ⟨H0, H⟩
    ihave H := h2.1 $$ H; icases H with ⟨H1, H2⟩
    isplitl [H0]; · iexact H0
    isplitl [H1]; · iexact H1
    iexact H2
  · iintro ⟨H0, H1, H2⟩
    iapply h1.2
    isplitl [H0]; · iexact H0
    iapply h2.2
    isplitl [H1]; · iexact H1
    iexact H2

/-! ## The result -/

/-- Device `c`'s result: the two halves of its own row block, then the two halves of each landed row block in turn, each
    times its chunk of `w`, added up in the order of the body; and the product of the scales at the end. -/
def accAt (c : Dev nD) : Vec F S512x8192 .f32 :=
  (k0_pay20 (cch m ρ c 6) (wch m ρ c 7 1)
  (k0_pay19 (cch m ρ c 6) (wch m ρ c 7 0)
  (k0_pay18 (cch m ρ c 5) (wch m ρ c 6 1)
  (k0_pay17 (cch m ρ c 5) (wch m ρ c 6 0)
  (k0_pay16 (cch m ρ c 4) (wch m ρ c 5 1)
  (k0_pay15 (cch m ρ c 4) (wch m ρ c 5 0)
  (k0_pay14 (cch m ρ c 3) (wch m ρ c 4 1)
  (k0_pay13 (cch m ρ c 3) (wch m ρ c 4 0)
  (k0_pay12 (k0_pay11 (cch m ρ c 2)) (wch m ρ c 3 1)
  (k0_pay10 (cch m ρ c 2) (wch m ρ c 3 0)
  (k0_pay9 (cch m ρ c 1) (wch m ρ c 2 1)
  (k0_pay8 (k0_pay7 (cch m ρ c 1)) (wch m ρ c 2 0)
  (k0_pay6 (k0_pay5 (cch m ρ c 0) (wch m ρ c 1 1))
  (k0_pay4 (cch m ρ c 0) (wch m ρ c 1 0)
  (k0_pay3 (xch1 m ρ c) (wch m ρ c 0 1)
  (k0_pay2 (xch0 m ρ c) (wch m ρ c 0 0)))))))))))))))))
def outAt (c : Dev nD) : (cc0_stg3_0 : Ref sig .tc).ty.Contents (Elt F) :=
  k0_pay21 (accAt m ρ c) (word1 (sx m ρ c)) (word1 (sw m ρ c))

/-! ## The run -/

section Run
variable (K : Dev nD × CI → ℕ) (c : Dev nD)

/-- What the body holds at its start, beside the records and the levels. -/
def Have : sProp 𝕄 :=
  iprop(owz c (oBar c 7)
    ∗ (bigSep Finset.univ fun j => dutyTok ER (barCell (mi c j)) 0 j) ∗ (bigSep Finset.univ fun j => iprop(∃ f, cPts c j f))
    ∗ (bigSep Finset.univ fun j => dutyTok ER (sendCell c j) 0 0) ∗ (bigSep Finset.univ fun j => dutyTok ER (recvCell (pl c j) j) 0 0)
    ∗ cred (tallyAt (barCell c) () 7) ∗ atPos ER (barCell c) 0 ∅ 0
    ∗ (bigSep Finset.univ fun j => Arr c j) ∗ (bigSep Finset.univ fun j => atPos ER (sendCell c j) 0 ∅ 0)
    ∗ (∃ f, Slot m ρ c 0 f) ∗ (∃ f, Slot m ρ c 1 f) ∗ (∃ f, Slot m ρ c 2 f)
    ∗ xPts m ρ c ∗ sxPts m ρ c ∗ swPts m ρ c ∗ (∃ f, ePtsW c f) ∗ (∃ f, oPts c f))

/-- and at its end. -/
def Left : sProp 𝕄 :=
  iprop(owz c 0 ∗ oPts c (outAt m ρ c) ∗ xPts m ρ c ∗ sxPts m ρ c ∗ swPts m ρ c ∗ semVal (barCell c) 0
    ∗ (bigSep Finset.univ fun j => Got m ρ c j) ∗ (bigSep Finset.univ fun j => Back m ρ c j) ∗ ePts c c (e8 m ρ c)
    ∗ (∃ f, Slot m ρ c 0 f) ∗ (∃ f, Slot m ρ c 1 f) ∗ (∃ f, Slot m ρ c 2 f))

/-- What the sends spend, from the rows of the cast block, the landing slots the barrier brought and the duties. -/
theorem outs : (iprop((bigSep Finset.univ fun j => ePts c (pl c j) (e8 m ρ c)) ∗ (bigSep Finset.univ fun j => barPay (F := F) c j)
      ∗ (bigSep Finset.univ fun j => dutyTok ER (sendCell c j) 0 0) ∗ (bigSep Finset.univ fun j => dutyTok ER (recvCell (pl c j) j) 0 0)) : sProp 𝕄)
    ⊢ bigSep Finset.univ fun j => Out m ρ c j := by
  rw [← bigSep_sep', ← bigSep_sep', ← bigSep_sep']
  refine bigSep_mono fun j _ => ?_
  unfold Out barPay
  show (_ : sProp 𝕄) ⊢ _
  iintro ⟨He, ⟨Hc, -⟩, H1, H2⟩
  isplitl [He]; · iexact He
  isplitl [Hc]; · iexact Hc
  isplitl [H1] <;> iassumption

theorem wpc_bind {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := Entails.of_eq (wp_bind ..).symm

theorem snt (j : Fin 7) : (cred (tallyAt (sendCell c j) () N) : sProp 𝕄) ⊢ iprop(atPos ER (sendCell c j) 0 ∅ 0 -∗ Snt c j) := by
  unfold Snt
  iintro H1 H2
  isplitl [H1] <;> iassumption

set_option maxHeartbeats 1600000 in
/-- The body at device `c`, from `Have` to `Left`. -/
theorem sound_body (Kt : PUnit → sProp 𝕄) :
    Rec m ρ K ⊢ iprop(levAts L lv -∗ Have m ρ c -∗ (Left m ρ c -∗ Kt ⟨⟩) -∗ wpc c (At (cc0_body (F := F))) Kt) := by
  rw [cc0_body_eq_skeleton]; unfold cc0_body_skel Have At
  beta_reduce
  rw [seven (fun j => dutyTok ER (barCell (mi c j)) 0 j), seven (fun j => iprop(∃ f, cPts c j f)), seven (fun j => Arr c j),
    seven (fun j => atPos ER (sendCell c j) 0 ∅ 0)]
  iintro #HR #Hl ⟨HO, ⟨Hb0, Hb1, Hb2, Hb3, Hb4, Hb5, Hb6⟩, ⟨Hc0, Hc1, Hc2, Hc3, Hc4, Hc5, Hc6⟩, Hds, Hdr, Hcb, Hab,
    ⟨Ha0, Ha1, Ha2, Ha3, Ha4, Ha5, Ha6⟩, ⟨Hp0, Hp1, Hp2, Hp3, Hp4, Hp5, Hp6⟩, ⟨%f0, H0⟩, ⟨%f1, H1⟩, ⟨%f2, H2⟩, Hx, Hsx, Hsw, ⟨%fe, He⟩, ⟨%fo, Ho⟩⟩ Hk
  iapply (wpc_bind c)
  iapply (part1 m ρ c) $$ H0; iintro %a %b %d H0
  dsimp only; iapply (wpc_bind c)
  iapply (part2 m ρ c) $$ H1 H2 Hx He; iintro %a %b H1 H2 Hx He
  dsimp only; iapply (wpc_bind c)
  iapply (part3 m ρ K c) $$ HR HO Hb6 Hc6 Hb5 Hc5; iintro %r HO
  obtain ⟨_, _, _, _⟩ := r; dsimp only; iapply (wpc_bind c)
  iapply (part4 m ρ K c) $$ HR HO Hb4 Hc4 Hb3 Hc3 Hb2 Hc2; iintro %r HO
  obtain ⟨_, _⟩ := r; dsimp only; iapply (wpc_bind c)
  iapply (part5 m ρ K c) $$ HR Hl HO Hb1 Hc1 Hb0 Hc0 Hcb Hab; iintro %r HO Hzb Hbp
  obtain ⟨_, _, _, _⟩ := r; dsimp only
  ihave He := (Entails.of_eq (e_split c (e8 m ρ c))) $$ He; icases He with ⟨Hec, He⟩
  ihave Hou := (outs m ρ c) $$ [He Hbp Hds Hdr]
  · isplitl [He]; · iexact He
    isplitl [Hbp]; · iexact Hbp
    isplitl [Hds] <;> iassumption
  ihave Hou := (Entails.of_eq (seven (Out m ρ c))) $$ Hou; icases Hou with ⟨Hs0, Hs1, Hs2, Hs3, Hs4, Hs5, Hs6⟩
  iapply (wpc_bind c)
  iapply (part6 m ρ K c) $$ HR HO Hs0; iintro HO Hs0
  iapply (wpc_bind c)
  iapply (part7 m ρ K c) $$ HR HO Hs1 Hs2; iintro %r HO Hs1 Hs2
  iapply (wpc_bind c)
  iapply (part8 m ρ K c) $$ HR HO Hs3 Hs4; iintro %r HO Hs3 Hs4
  iapply (wpc_bind c)
  iapply (part9 m ρ K c) $$ HR HO Hs5; iintro %r HO Hs5
  obtain ⟨_, _⟩ := r; dsimp only; iapply (wpc_bind c)
  iapply (part10 m ρ K c) $$ HR HO Hs6 H0 Hx; iintro HO Hs6 H0 Hx
  iapply (wpc_bind c)
  iapply (part11 m ρ c) $$ Ho H0; iintro Ho H0
  iapply (wpc_bind c)
  iapply (part12 m ρ c) $$ HO Ho H1 Hx; iintro HO Ho H1 Hx
  iapply (wpc_bind c)
  iapply (part13 m ρ c) $$ HO H1 H2; iintro %r HO H1 H2
  iapply (wpc_bind c)
  iapply (part14 m ρ K c) $$ HR HO Ho H2 Ha0; iintro HO Ho H2 Ha0
  iapply (wpc_bind c)
  iapply (part15 m ρ c) $$ HO H2 H0 Ha0; iintro HO H2 H0 Ha0
  iapply (wpc_bind c)
  iapply (part16 m ρ c) $$ Ho H0; iintro %r Ho H0
  iapply (wpc_bind c)
  iapply (part17 m ρ K c) $$ HR HO H1 Ha1; iintro HO H1 Ha1
  iapply (wpc_bind c)
  iapply (part18 m ρ c) $$ Ho H1; iintro %r Ho H1
  obtain ⟨_, _, _, _, _⟩ := r; dsimp only; iapply (wpc_bind c)
  iapply (part19 m ρ c) $$ HO Ho H2 Ha1; iintro %r HO Ho H2 Ha1
  iapply (wpc_bind c)
  iapply (part20 m ρ c) $$ HO H2 H0; iintro %r HO H2 H0
  obtain ⟨_, _, _, _⟩ := r; dsimp only; iapply (wpc_bind c)
  iapply (part21 m ρ K c) $$ HR HO Ho H0 Ha2; iintro %r HO Ho H0 Ha2
  obtain ⟨_, _, _, _⟩ := r; dsimp only; iapply (wpc_bind c)
  iapply (part22 m ρ c) $$ HO H0 H1 Ha2; iintro HO H0 H1 Ha2
  iapply (wpc_bind c)
  iapply (part23 m ρ c) $$ Ho H1; iintro %r Ho H1
  obtain ⟨_, _, _⟩ := r; dsimp only; iapply (wpc_bind c)
  iapply (part24 m ρ K c) $$ HR HO H2 Ha3; iintro HO H2 Ha3
  iapply (wpc_bind c)
  iapply (part25 m ρ c) $$ Ho H2 Ha3; iintro %r Ho H2 Ha3
  obtain ⟨_, _, _⟩ := r; dsimp only; iapply (wpc_bind c)
  iapply (part26 m ρ c) $$ HO Ho H0 Ha3; iintro %r HO Ho H0 Ha3
  obtain ⟨_, _⟩ := r; dsimp only; iapply (wpc_bind c)
  iapply (part27 m ρ c) $$ HO H0 H1; iintro %r HO H0 H1
  iapply (wpc_bind c)
  iapply (part28 m ρ K c) $$ HR HO Ho H1 Ha4; iintro %r HO Ho H1 Ha4
  iapply (wpc_bind c)
  iapply (part29 m ρ c) $$ H1; iintro H1
  iapply (wpc_bind c)
  iapply (part30 m ρ c) $$ HO Ho H2 Ha4; iintro HO Ho H2 Ha4
  iapply (wpc_bind c)
  iapply (part31 m ρ c) $$ HO H0; iintro HO H0
  iapply (wpc_bind c)
  iapply (part32 m ρ K c) $$ HR HO Ho H0 Ha5; iintro HO Ho H0 Ha5
  iapply (wpc_bind c)
  iapply (part33 m ρ c) $$ HO Ho H0 H1 Ha5; iintro HO Ho H0 H1 Ha5
  iapply (wpc_bind c)
  iapply (part34 m ρ c) $$ HO Ho H2; iintro %r HO Ho H2
  obtain ⟨_, _⟩ := r; dsimp only; iapply (wpc_bind c)
  iapply (part35 m ρ K c) $$ HR HO Ho H2 Ha6; iintro HO Ho H2 Ha6
  ihave Hs0 := (snt c 0) $$ Hs0 Hp0
  ihave Hs1 := (snt c 1) $$ Hs1 Hp1
  ihave Hs2 := (snt c 2) $$ Hs2 Hp2
  ihave Hs3 := (snt c 3) $$ Hs3 Hp3
  ihave Hs4 := (snt c 4) $$ Hs4 Hp4
  ihave Hs5 := (snt c 5) $$ Hs5 Hp5
  ihave Hs6 := (snt c 6) $$ Hs6 Hp6
  iapply (wpc_bind c)
  iapply (part36 m ρ K c) $$ HR HO Ho H0 Ha6 Hsx Hsw Hs0; iintro HO Ho H0 Ha6 Hsx Hsw Hs0
  iapply (wpc_bind c)
  iapply (part37 m ρ K c) $$ HR HO Hs1 Hs2 Hs3 Hs4; iintro HO Hs1 Hs2 Hs3 Hs4
  simp only [Prog.lift, Prog.bind_op, Prog.bind_ret, Prog.pure_eq_ret]
  iapply (wp_sendWait m ρ K c 5) $$ HR HO Hs5; iintro ⟨HO, Hs5⟩
  iapply (wp_sendWait m ρ K c 6) $$ HR HO Hs6; iintro ⟨HO, Hs6⟩
  iapply (wpc_ret c); iapply Hk
  unfold Left outAt accAt
  rw [seven, seven]
  isplitl [HO]; · iexact HO
  isplitl [Ho]; · iexact Ho
  isplitl [Hx]; · iexact Hx
  isplitl [Hsx]; · iexact Hsx
  isplitl [Hsw]; · iexact Hsw
  isplitl [Hzb]; · iexact Hzb
  isplitl [Ha0 Ha1 Ha2 Ha3 Ha4 Ha5 Ha6]
  · isplitl [Ha0]; · iexact Ha0
    isplitl [Ha1]; · iexact Ha1
    isplitl [Ha2]; · iexact Ha2
    isplitl [Ha3]; · iexact Ha3
    isplitl [Ha4]; · iexact Ha4
    isplitl [Ha5] <;> iassumption
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5] <;> iassumption
  isplitl [Hec]; · iexact Hec
  isplitl [H0]; · iexists _; iexact H0
  isplitl [H1]; · iexists _; iexact H1
  iexists _; iexact H2

end Run
end Cert.KProof
end
-- ==== Proof.Launch.lean ====
/-
# The body as the pipeline's one point

What a device holds before and after the point, the scratch buffers cut into the exchange's pieces and put together
again, and the body's obligation to the pipeline.
-/
module

public import proofs.«01_k».proof.Proof.Run

@[expose] public section

set_option maxRecDepth 16384

noncomputable section

namespace Cert.KProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The point's proof data -/

/-- The copies of `w` at rest: the three semaphores at zero. -/
def wSems (c : Dev nD) : sProp 𝕄 := bigSep Finset.univ fun s => semVal (wCell c s) 0

/-- Device `c`'s own part of the exchange's ghost state: its positions at its cells, and the tokens of the duties it pays. -/
def lin (c : Dev nD) : sProp 𝕄 :=
  iprop((atPos ER (barCell c) 0 ∅ 0 ∗ (bigSep Finset.univ fun j => atPos ER (recvCell c j) 0 ∅ 0) ∗ (bigSep Finset.univ fun j => atPos ER (sendCell c j) 0 ∅ 0))
    ∗ ((bigSep Finset.univ fun j => dutyTok ER (barCell (mi c j)) 0 j) ∗ (bigSep Finset.univ fun j => dutyTok ER (recvCell (pl c j) j) 0 0)
      ∗ (bigSep Finset.univ fun j => dutyTok ER (sendCell c j) 0 0)) ∗ wSems c)

/-- What the launch's global step leaves device `c`. -/
def G' (c : Dev nD) : sProp 𝕄 := iprop(∃ K, Rec m ρ K ∗ lin c)

/-- What the body starts from, beside the scratch buffers: that, its credits, the levels, and its copy of `w`. -/
def start (c : Dev nD) : sProp 𝕄 :=
  iprop(G' m ρ c ∗ cred (tallyAt (barCell c) () 7) ∗ (bigSep Finset.univ fun j => cred (tallyAt (recvCell c j) () N)) ∗ levAts L lv
    ∗ (((c : Thread nD τ).loc main_arg1) ↦{fullShare} wv m ρ c))

/-- The scratch buffers, each whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m ρ c ∗ scratch c)
/-- After the point: every semaphore at zero again, the scratch buffers whole, and `w` as it was. -/
def Φ₁ (c : Dev nD) : sProp 𝕄 :=
  iprop((((c : Thread nD τ).loc main_arg1) ↦{fullShare} wv m ρ c) ∗ semVal (barCell c) 0
    ∗ (wSems c ∗ (bigSep Finset.univ fun j => semVal (recvCell c j) 0) ∗ (bigSep Finset.univ fun j => semVal (sendCell c j) 0)) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sx m ρ c
    | ⟨2, _⟩ => sw m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body obligation -/

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_elim (c : Dev nD) (b : Ref sig .tc) (X : b.ty.Contents (Elt F)) :
    stg c b X ⊢ (((c : Thread nD τ).loc b) ↦{fullShare} X : sProp 𝕄) := by
  unfold stg; iintro ⟨%f, %hf, H⟩; subst hf; iexact H
theorem stg_intro (c : Dev nD) (b : Ref sig .tc) (X : b.ty.Contents (Elt F)) :
    (((c : Thread nD τ).loc b) ↦{fullShare} X : sProp 𝕄) ⊢ stg c b X := by
  unfold stg; iintro H; iexists X; isplitr
  · ipureintro; rfl
  · iexact H

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_0 (c : Dev nD) (d) : (dats m ρ 0 c).before (0 : Fin 4) t0_0 d = xstg m ρ c := by
  unfold Dat.before; rw [if_pos (by rfl)]; rfl
theorem before_1 (c : Dev nD) (d) : (dats m ρ 0 c).before (1 : Fin 4) t0_0 d = sx m ρ c := by
  unfold Dat.before; rw [if_pos (by rfl)]; rfl
theorem before_2 (c : Dev nD) (d) : (dats m ρ 0 c).before (2 : Fin 4) t0_0 d = sw m ρ c := by
  unfold Dat.before; rw [if_pos (by rfl)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ
    ∗ stg c cc0_stg0_0 (xstg m ρ c) ∗ stg c cc0_stg1_0 (sx m ρ c) ∗ stg c cc0_stg2_0 (sw m ρ c) ∗ stg c cc0_stg3_0 (outAt m ρ c))

/-- The landing slots, the barrier's positions and credits as the body asks for them. -/
theorem arrs (c : Dev nD) : (iprop((bigSep Finset.univ fun j => cred (tallyAt (recvCell c j) () N)) ∗ (bigSep Finset.univ fun j => atPos ER (recvCell c j) 0 ∅ 0)) : sProp 𝕄)
    ⊢ bigSep Finset.univ fun j => Arr c j := by
  rw [← bigSep_sep']; unfold Arr; exact Entails.refl _

theorem c_pieces (c : Dev nD) (f : (cc0_scratch1 : Ref sig .tc).ty.Contents (Elt F)) :
    (((c : Thread nD τ).loc cc0_scratch1) ↦{fullShare} f : sProp 𝕄) ⊢ bigSep Finset.univ fun j => iprop(∃ f, cPts c j f) := by
  rw [c_split]
  refine bigSep_mono fun j _ => ?_
  show (_ : sProp 𝕄) ⊢ _
  iintro H; iexists f; iexact H

theorem slots (c : Dev nD) (f : (cc0_scratch2 : Ref sig .tc).ty.Contents (Elt F)) :
    (iprop((((c : Thread nD τ).loc cc0_scratch2) ↦{fullShare} f) ∗ wSems c ∗ (((c : Thread nD τ).loc main_arg1) ↦{fullShare} wv m ρ c)) : sProp 𝕄)
      ⊢ iprop((∃ f, Slot m ρ c 0 f) ∗ (∃ f, Slot m ρ c 1 f) ∗ (∃ f, Slot m ρ c 2 f)) := by
  rw [b_split]; unfold wSems Slot; rw [three]
  iintro ⟨⟨B0, B1, B2⟩, ⟨S0, S1, S2⟩, Hw⟩
  ihave Hw := (w_split m ρ c).1 $$ Hw; icases Hw with ⟨W0, W1, W2⟩
  isplitl [B0 S0 W0]
  · iexists f; isplitl [B0]; · iexact B0
    isplitl [S0] <;> iassumption
  isplitl [B1 S1 W1]
  · iexists f; isplitl [B1]; · iexact B1
    isplitl [S1] <;> iassumption
  iexists f; isplitl [B2]; · iexact B2
  isplitl [S2] <;> iassumption

theorem slots_back (c : Dev nD) :
    (iprop((∃ f, Slot m ρ c 0 f) ∗ (∃ f, Slot m ρ c 1 f) ∗ (∃ f, Slot m ρ c 2 f)) : sProp 𝕄)
      ⊢ iprop((∃ f, ((c : Thread nD τ).loc cc0_scratch2) ↦{fullShare} f) ∗ wSems c ∗ (((c : Thread nD τ).loc main_arg1) ↦{fullShare} wv m ρ c)) := by
  unfold wSems Slot; rw [three]
  iintro ⟨⟨%f0, B0, S0, W0⟩, ⟨%f1, B1, S1, W1⟩, ⟨%f2, B2, S2, W2⟩⟩
  isplitl [B0 B1 B2]
  · iapply (b_join c f0 f1 f2)
    isplitl [B0]; · iexact B0
    isplitl [B1] <;> iassumption
  isplitl [S0 S1 S2]
  · isplitl [S0]; · iexact S0
    isplitl [S1] <;> iassumption
  iapply (w_split m ρ c).2
  isplitl [W0]; · iexact W0
  isplitl [W1] <;> iassumption

/-- The landing slots once all have been waited for are the landing buffer whole, and the receive cells at zero; -/
theorem got_all (c : Dev nD) : (bigSep Finset.univ fun j => Got m ρ c j : sProp 𝕄)
    ⊢ iprop((((c : Thread nD τ).loc cc0_scratch1) ↦{fullShare} cVal m ρ c) ∗ bigSep Finset.univ fun j => semVal (recvCell c j) 0) := by
  unfold Got; rw [bigSep_sep', c_split]
/-- the rows sent, with the row block kept, are the cast block whole, and the send cells are at zero. -/
theorem back_all (c : Dev nD) : (iprop(ePts c c (e8 m ρ c) ∗ bigSep Finset.univ fun j => Back m ρ c j) : sProp 𝕄)
    ⊢ iprop((((c : Thread nD τ).loc cc0_scratch0) ↦{fullShare} e8 m ρ c) ∗ bigSep Finset.univ fun j => semVal (sendCell c j) 0) := by
  unfold Back; rw [bigSep_sep', show ((((c : Thread nD τ).loc cc0_scratch0) ↦{fullShare} e8 m ρ c) : sProp 𝕄) = ePtsW c (e8 m ρ c) from rfl, e_split]
  iintro ⟨H, Hs, Hz⟩
  isplitl [H Hs]
  · isplitl [H] <;> iassumption
  iexact Hz

/-- The body from what the pipeline hands it to what it hands back. -/
theorem body_run (c : Dev nD) :
    bodyPre m ρ c ⊢ wpc c (At (cc0_body (F := F))) (fun _ => bodyPost m ρ c) := by
  unfold bodyPre Φ₀ start scratch G' lin Dat.owesAt Pipeline.owesWithin
  rw [show (dats m ρ 0 c).owed t0_0.castSucc = O₀ c from rfl]
  iintro ⟨⟨⟨⟨%K, #HR, ⟨Hab, Har, Has⟩, ⟨Htb, Htr, Hts⟩, HW⟩, Hcb, Hcr, #Hl, Hw⟩, ⟨%fe, He⟩, ⟨%fc, Hc⟩, ⟨%fb, Hb⟩⟩,
    ⟨%W, %hW, HO⟩, ⟨%d0, Hx⟩, ⟨%d1, Hsx⟩, ⟨%d2, Hsw⟩, ⟨%d3, Ho⟩⟩
  ihave Hx := (stg_elim c _ _) $$ Hx
  ihave Hsx := (stg_elim c _ _) $$ Hsx
  ihave Hsw := (stg_elim c _ _) $$ Hsw
  ihave Ho := (stg_elim c _ _) $$ Ho
  rw [before_0, before_1, before_2]
  ihave Hs := (slots m ρ c fb) $$ [Hb HW Hw]
  · isplitl [Hb]; · iexact Hb
    isplitl [HW] <;> iassumption
  icases Hs with ⟨H0, H1, H2⟩
  ihave Hc := (c_pieces c fc) $$ Hc
  ihave Ha := (arrs c) $$ [Hcr Har]
  · isplitl [Hcr] <;> iassumption
  iapply (sound_body m ρ K c) $$ HR Hl [HO Htb Hc Hts Htr Hcb Hab Ha Has H0 H1 H2 Hx Hsx Hsw He Ho]
  · unfold Have owz xPts sxPts swPts ePtsW oPts
    isplitl [HO]; · iexists W; iexact HO
    isplitl [Htb]; · iexact Htb
    isplitl [Hc]; · iexact Hc
    isplitl [Hts]; · iexact Hts
    isplitl [Htr]; · iexact Htr
    isplitl [Hcb]; · iexact Hcb
    isplitl [Hab]; · iexact Hab
    isplitl [Ha]; · iexact Ha
    isplitl [Has]; · iexact Has
    isplitl [H0]; · iexact H0
    isplitl [H1]; · iexact H1
    isplitl [H2]; · iexact H2
    isplitl [Hx]; · iexact Hx
    isplitl [Hsx]; · iexact Hsx
    isplitl [Hsw]; · iexact Hsw
    isplitl [He]; · iexists fe; iexact He
    iexists _; iexact Ho
  unfold Left owz xPts sxPts swPts oPts
  iintro ⟨⟨%W', HO⟩, Ho, Hx, Hsx, Hsw, Hzb, Hg, Hbk, He, H0, H1, H2⟩
  ihave Hg := (got_all m ρ c) $$ Hg; icases Hg with ⟨Hc, Hzr⟩
  ihave He := (back_all m ρ c) $$ [He Hbk]
  · isplitl [He] <;> iassumption
  icases He with ⟨He, Hzs⟩
  ihave Hs := (slots_back m ρ c) $$ [H0 H1 H2]
  · isplitl [H0]; · iexact H0
    isplitl [H1] <;> iassumption
  icases Hs with ⟨Hb, HW, Hw⟩
  unfold bodyPost Φ₁ scratch Dat.owesAt Pipeline.owesWithin
  rw [show (dats m ρ 0 c).owed t0_0.succ = 0 from rfl]
  isplitl [Hw Hzb HW Hzr Hzs He Hc Hb]
  · isplitl [Hw]; · iexact Hw
    isplitl [Hzb]; · iexact Hzb
    isplitl [HW Hzr Hzs]
    · isplitl [HW]; · iexact HW
      isplitl [Hzr] <;> iassumption
    isplitl [He]; · iexists _; iexact He
    isplitl [Hc]; · iexists _; iexact Hc
    iexact Hb
  isplitl [HO]
  · iexists W'; isplitr
    · ipureintro; exact fun _ _ => Or.inl trivial
    · iexact HO
  isplitl [Hx]; · iapply (stg_intro c _ _); iexact Hx
  isplitl [Hsx]; · iapply (stg_intro c _ _); iexact Hsx
  isplitl [Hsw]; · iapply (stg_intro c _ _); iexact Hsw
  iapply (stg_intro c _ _); iexact Ho

theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  exact body_run m ρ c

end Cert.KProof
end
-- ==== Proof.Exec.lean ====
/-
# The eight devices from launch to end

The exchange's ghost state funded and dealt to the devices, the launch credit, and the run of `@main` from any memory
with zero counters.
-/
module

public import proofs.«01_k».proof.Proof.Launch
public import Idealize.ShloMosaic.Lib.Pipeline.CollectiveSegs

@[expose] public section

set_option maxRecDepth 16384

noncomputable section

namespace Cert.KProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the exchange's cells -/

theorem two {M : Type} [URA M] (Φ : Bool → sProp M) : bigSep Finset.univ Φ = iprop(Φ true ∗ Φ false) :=
  bigSep_univ_eq_bigSepL [true, false] (by decide) (by decide) Φ

theorem each {I : Type} [Fintype I] [DecidableEq I] {Φ Ψ : I → sProp 𝕄} (h : ∀ i, Φ i ⊢ Ψ i) : bigSep Finset.univ Φ ⊢ bigSep Finset.univ Ψ :=
  bigSep_mono fun i _ => h i

/-- Over a device's cells: the barrier cell, the receive cells, the send cells. -/
theorem over_cells {M : Type} [URA M] (Φ : CI → sProp M) : bigSep Finset.univ Φ
    = iprop(Φ none ∗ (bigSep Finset.univ fun j => Φ (some (true, j))) ∗ bigSep Finset.univ fun j => Φ (some (false, j))) := by
  rw [BI.bigSep_univ_equiv (Equiv.optionEquivSumPUnit.{0} (Bool × Fin 7)).symm, BI.bigSep_univ_sum, BI.bigSep_univ_prod, two,
    BI.bigSep_univ_of_subsingleton PUnit.unit]
  exact BI.Entails.antisymm BI.sep_comm BI.sep_comm

/-- The kernel's own semaphores as the launch names them: the copies of `w`'s, the receive ones, the send ones. -/
def osem : Fin 3 ⊕ (Bool × Fin 7) → SemLoc sig
  | .inl s => .dma (wS s)
  | .inr (true, j) => .dma (recvS j)
  | .inr (false, j) => .dma (sendS j)

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(wSems c ∗ (bigSep Finset.univ fun j => semVal (recvCell c j) 0) ∗ bigSep Finset.univ fun j => semVal (sendCell c j) 0) := by
  unfold Pipeline.ownSems0 wSems
  rw [BI.bigSep_univ_sum, BI.bigSep_univ_prod, two]; rfl

/-- The barrier semaphore is the only unscoped one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The exchange's ghost state, funded -/

theorem ksem_injective : Function.Injective ksem := by decide
theorem kcell_injective : Function.Injective (kcell : Dev nD × CI → GSem nD τ sig) := fun ⟨c, k⟩ ⟨c', k'⟩ h => by
  have hc : c = c' := congrArg (fun g : GSem nD τ sig => g.1.1) h
  have hk : ksem k = ksem k' := congrArg Prod.snd h
  rw [hc, ksem_injective hk]
def cells : Finset (GSem nD τ sig) := Finset.univ.map ⟨kcell, kcell_injective⟩

/-- A device's duties: its barrier's seven, then one for each receive and each send cell. -/
def duty : Option Bool × Fin 7 → SemLoc sig × Fin 7
  | (none, j) => (.reg barS, j)
  | (some true, j) => (.dma (recvS j), 0)
  | (some false, j) => (.dma (sendS j), 0)
theorem duty_injective : Function.Injective duty := by decide
def tokOf (ck : Dev nD × (Option Bool × Fin 7)) : GSem nD τ sig × ℕ × Fin 7 :=
  (((ck.1 : Thread nD τ), (duty ck.2).1), 0, (duty ck.2).2)
theorem tokOf_injective : Function.Injective tokOf := fun ⟨c, k⟩ ⟨c', k'⟩ h => by
  have hc : c = c' := congrArg (fun x : GSem nD τ sig × ℕ × Fin 7 => x.1.1.1) h
  have hk : duty k = duty k' := congrArg (fun x : GSem nD τ sig × ℕ × Fin 7 => (x.1.2, x.2.2)) h
  rw [hc, duty_injective hk]
def tokens : Finset (GSem nD τ sig × ℕ × Fin 7) := Finset.univ.map ⟨tokOf, tokOf_injective⟩

/-- The user's resource at launch. -/
def u₀ : UU := (initOf (Pipeline.cells cfgs cellOf_inj) (Pipeline.launchToks cfgs cellOf_inj), (initOf cells tokens, 1))

/-- The duty tokens of device `c`'s own cells. -/
def toks (c : Dev nD) : sProp 𝕄 :=
  iprop((bigSep Finset.univ fun j => dutyTok ER (barCell c) 0 j) ∗ (bigSep Finset.univ fun j => dutyTok ER (recvCell c j) 0 0)
    ∗ (bigSep Finset.univ fun j => dutyTok ER (sendCell c j) 0 0))

/-- What the funding deals device `c`. -/
def G (c : Dev nD) : sProp 𝕄 :=
  iprop((bigSep Finset.univ fun k => roundState ER (sched m ρ) (kcell (c, k)) 0)
    ∗ ((bigSep Finset.univ fun k => atPos ER (kcell (c, k)) 0 ∅ 0) ∗ bigSep Finset.univ fun k => reached ER (kcell (c, k)) 0) ∗ toks c)

theorem over_all {M : Type} [URA M] (Φ : GSem nD τ sig → sProp M) :
    bigSep cells Φ = bigSep Finset.univ fun c : Dev nD => bigSep Finset.univ fun k : CI => Φ (kcell (c, k)) := by
  unfold cells; rw [BI.bigSep_map, BI.bigSep_univ_prod]; rfl

theorem three_options {M : Type} [URA M] (Φ : Option Bool → sProp M) : bigSep Finset.univ Φ = iprop(Φ none ∗ Φ (some true) ∗ Φ (some false)) :=
  bigSep_univ_eq_bigSepL [none, some true, some false] (by decide) (by decide) Φ

theorem over_toks : (bigSep tokens fun x => (dutyTok ER x.1 x.2.1 x.2.2 : sProp 𝕄)) = bigSep Finset.univ fun c : Dev nD => toks c := by
  unfold tokens; rw [BI.bigSep_map, BI.bigSep_univ_prod]
  exact bigSep_congr fun c _ => by unfold toks; rw [BI.bigSep_univ_prod, three_options]; rfl

theorem fund_exchange : BI.own ((embR : Emb (UB × Counters) 𝕄) (initOf cells tokens, 1)) ⊢ (|==> bigSep Finset.univ (G m ρ) : sProp 𝕄) := by
  show BI.own (ER (initOf cells tokens)) ⊢ _
  iintro HX
  imod (Rounds.fund ER (sched m ρ) cells tokens) $$ HX with ⟨Hst, Hr, Hat, Htok⟩
  imodintro
  ihave Hst := (Entails.of_eq (over_all fun g => roundState ER (sched m ρ) g 0)) $$ Hst
  ihave Hat := (Entails.of_eq (over_all fun g => atPos ER g 0 ∅ 0)) $$ Hat
  ihave Hr := (Entails.of_eq (over_all fun g => reached ER g 0)) $$ Hr
  ihave Htok := (Entails.of_eq (over_toks (F := F))) $$ Htok
  unfold G; simp only [bigSep_sep']
  isplitl [Hst]; · iexact Hst
  isplitl [Hat Hr]
  · isplitl [Hat] <;> iassumption
  iexact Htok

/-! ## Dealt to the devices -/

/-- One device's cells get their invariants. -/
theorem alloc_one (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ ((bigSep Finset.univ fun k => atPos ER (kcell (c, k)) 0 ∅ 0) ∗ bigSep Finset.univ fun k => reached ER (kcell (c, k)) 0) ∗ toks c ∗ wSems c) := by
  unfold G; rw [ownSems0_eq, unscopedSems0_eq]
  iintro ⟨⟨HW, HV, HS⟩, HB, Hst, Hat, Htok⟩
  imod (show iprop((semVal (barCell c) 0 ∗ (bigSep Finset.univ fun j => semVal (recvCell c j) 0) ∗ bigSep Finset.univ fun j => semVal (sendCell c j) 0)
        ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) from by
        rw [show (iprop(semVal (barCell c) 0 ∗ (bigSep Finset.univ fun j => semVal (recvCell c j) 0) ∗ bigSep Finset.univ fun j => semVal (sendCell c j) 0) : sProp 𝕄)
          = bigSep Finset.univ fun k => semVal (kcell (c, k)) 0 from (over_cells fun k => semVal (kcell (c, k)) 0).symm, ← bigSep_sep']
        exact (bigSep_mono fun k _ => (Rounds.body_intro ER (sched m ρ) (kcell (c, k))).trans inv_alloc).trans (bigSep_fupd _ _)) $$ [HB HV HS Hst] with Hinv
  · isplitl [HB HV HS]
    · isplitl [HB]; · iexact HB
      isplitl [HV] <;> iassumption
    iexact Hst
  imodintro
  isplitl [Hinv]; · iexact Hinv
  isplitl [Hat]; · iexact Hat
  isplitl [Htok] <;> iassumption

/-- Dealing a family over devices and places, each place's turned round by its offset. -/
theorem turn (Φ : Dev nD → Fin 7 → sProp 𝕄) (e : Fin 7 → Dev nD ≃ Dev nD) :
    (bigSep Finset.univ fun c : Dev nD => bigSep Finset.univ fun j => Φ c j) = bigSep Finset.univ fun c : Dev nD => bigSep Finset.univ fun j => Φ (e j c) j := by
  rw [BI.bigSep_univ_comm, BI.bigSep_univ_comm fun (c : Dev nD) j => Φ (e j c) j]
  exact bigSep_congr fun j _ => BI.bigSep_univ_equiv (e j) fun c => Φ c j

/-- The tokens of the duties each device pays, from those of each device's own cells. -/
theorem toks_turned : (bigSep Finset.univ fun c : Dev nD => (toks c : sProp 𝕄))
    = bigSep Finset.univ fun c : Dev nD => iprop((bigSep Finset.univ fun j => dutyTok ER (barCell (mi c j)) 0 j)
        ∗ (bigSep Finset.univ fun j => dutyTok ER (recvCell (pl c j) j) 0 0) ∗ (bigSep Finset.univ fun j => dutyTok ER (sendCell c j) 0 0)) := by
  unfold toks
  rw [bigSep_sep', bigSep_sep', bigSep_sep', bigSep_sep', turn (fun c j => dutyTok ER (barCell c) 0 j) fun j => (around j).symm,
    turn (fun c j => dutyTok ER (recvCell c j) 0 0) around]
  rfl

/-- What every device may read, given to each. -/
theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The devices' own parts of the ghost state, from the parts dealt. -/
theorem lin_all :
    (iprop((bigSep Finset.univ fun c : Dev nD => bigSep Finset.univ fun k => atPos ER (kcell (c, k)) 0 ∅ 0)
        ∗ (bigSep Finset.univ fun c : Dev nD => (toks c : sProp 𝕄)) ∗ bigSep Finset.univ fun c : Dev nD => wSems c) : sProp 𝕄)
      ⊢ bigSep Finset.univ lin := by
  rw [toks_turned, ← bigSep_sep', ← bigSep_sep']
  exact Entails.of_eq (bigSep_congr fun c _ => by unfold lin; rw [over_cells]; rfl)

theorem regroup :
    (bigSep Finset.univ fun c : Dev nD => iprop((bigSep Finset.univ fun k => iprop(∃ κ : ℕ, cellInv ER (sched m ρ) κ (kcell (c, k))))
          ∗ ((bigSep Finset.univ fun k => atPos ER (kcell (c, k)) 0 ∅ 0) ∗ bigSep Finset.univ fun k => reached ER (kcell (c, k)) 0) ∗ toks c ∗ wSems c) : sProp 𝕄)
      ⊢ bigSep Finset.univ (G' m ρ) := by
  rw [bigSep_sep', bigSep_sep', bigSep_sep', bigSep_sep', ← BI.bigSep_univ_prod (fun ck : Dev nD × CI => iprop(∃ κ : ℕ, cellInv ER (sched m ρ) κ (kcell ck))),
    ← BI.bigSep_univ_prod (fun ck : Dev nD × CI => (reached ER (kcell ck) 0 : sProp 𝕄))]
  iintro ⟨HI, ⟨Hat, #HR⟩, Htok, HW⟩
  ihave HK := (BI.bigSep_exists_pi Finset.univ (fun (ck : Dev nD × CI) (κ : ℕ) => (cellInv ER (sched m ρ) κ (kcell ck) : sProp 𝕄))) $$ HI
  icases HK with ⟨%K, #HI⟩
  iapply (deal (R := Rec m ρ K) (Φ := lin) fun c => show iprop(Rec m ρ K ∗ lin c) ⊢ G' m ρ c from by
    unfold G'; iintro H; iexists K; iexact H)
  isplitr
  · unfold Rec; isplitl
    · iexact HI
    · iexact HR
  iapply (lin_all (F := F))
  isplitl [Hat]; · iexact Hat
  isplitl [Htok] <;> iassumption

/-- The launch's global step: every device's semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (regroup m ρ))

/-! ## The launch credit -/

/-- What a device owes at launch, duty by duty. -/
theorem O₀_sum : (O₀ : Dev nD → CellTallies nD τ sig Unit)
    = fun c => (∑ j : Fin 7, tallyAt (recvCell (pl c j) j) () N) + ∑ j : Fin 7, tallyAt (barCell (mi c j)) () 1 := by
  funext c
  have hr (n : ℕ) (hn : n ≤ 7) : oRecv c n = ∑ j : Fin n, tallyAt (recvCell (pl c (Fin.rev (j.castLE hn))) (Fin.rev (j.castLE hn))) () N := by
    induction n with
    | zero => rfl
    | succ n ih =>
      rw [Fin.sum_univ_castSucc]; unfold oRecv; rw [ih (by omega), dif_pos (by omega)]; rfl
  have hb (n : ℕ) (hn : n ≤ 7) : oBar c n = oRecv c 7 + ∑ j : Fin n, tallyAt (barCell (mi c (j.castLE hn))) () 1 := by
    induction n with
    | zero => exact (add_zero _).symm
    | succ n ih =>
      rw [Fin.sum_univ_castSucc]; unfold oBar; rw [ih (by omega), dif_pos (by omega), add_assoc]; rfl
  unfold O₀
  rw [hb 7 (le_refl 7), hr 7 (le_refl 7)]
  exact congrArg (· + _) (Equiv.sum_comp Fin.revPerm fun j : Fin 7 => (tallyAt (recvCell (pl c j) j) () N : CellTallies nD τ sig Unit))

/-- Seven single units are one tally of seven. -/
theorem units (g : GSem nD τ sig) : (∑ _j : Fin 7, tallyAt g () 1 : CellTallies nD τ sig Unit) = tallyAt g () 7 := by
  rw [Finset.sum_const, Finset.card_univ, Fintype.card_fin]
  refine funext fun g' => Finsupp.ext fun u => ?_
  rw [Pi.smul_apply, Finsupp.smul_apply, tallyAt_apply, tallyAt_apply]
  split <;> rfl

theorem creds (c : Dev nD) : (Pipeline.launchCred O₀ c : sProp 𝕄)
    ⊢ iprop(cred (tallyAt (barCell c) () 7) ∗ bigSep Finset.univ fun j => cred (tallyAt (recvCell c j) () N)) := by
  rw [O₀_sum, Pipeline.launchCred_add, Pipeline.launchCred_sum, Pipeline.launchCred_sum, ← units, Pipeline.cred_finsetSum]
  iintro ⟨HR, HB⟩
  isplitl [HB]
  · iapply (each fun j => Pipeline.launchCred_tallyAt (.reg barS) (fun c => mi c j) (fun c => pl c j) (fun c => mi_pl c j) (fun c => pl_mi c j) () 1 c)
    iexact HB
  · iapply (each fun j => Pipeline.launchCred_tallyAt (.dma (recvS j)) (fun c => pl c j) (fun c => mi c j) (fun c => pl_mi c j) (fun c => mi_pl c j) () N c)
    iexact HR

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds c) $$ Hcr
  icases Hc with ⟨H1, HN⟩
  imodintro
  unfold start
  isplitl
  · isplitl [HG]; · iexact HG
    isplitl [H1]; · iexact H1
    isplitl [HN]; · iexact HN
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What a device ends with beside its windows' arrays: `w` as it was, and the barrier cell at zero. -/
def Y (c : Dev nD) : sProp 𝕄 := iprop((((c : Thread nD τ).loc main_arg1) ↦{fullShare} wv m ρ c) ∗ unscopedSems0 c)

theorem phi1_exit (c : Dev nD) :
    (dats m ρ 0 c).Φ (Fin.last cfg0.N) ⊢ iprop(Y m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scratch Y; rw [unscopedSems0_eq]
  iintro ⟨Hw, Hb, Hs, Hr⟩
  isplitl [Hw Hb]
  · isplitl [Hw] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- `w` read at the end. -/
theorem read_w (c : Dev nD) (s' : Phys nD τ sig (Elt F)) :
    (iprop((((c : Thread nD τ).loc main_arg1) ↦{fullShare} wv m ρ c) ∗ SI s') : sProp 𝕄)
      ⊢ iprop(⌜s'.mem.mem ((c : Thread nD τ).loc main_arg1) = wv m ρ c⌝ ∗ SI s') := by
  iintro ⟨Hw, HSI⟩
  icombine HSI Hw gives %h
  isplitr
  · ipureintro; exact Buf.eq_of_forall_mem_univ h
  · iexact HSI

/-! ## The run -/

/-- Window `w`'s array on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- For any float values, from any memory with zero counters: every weakly fair execution of `@main` on the eight devices
    ends, with each device's windows' arrays at the computed contents, its copy of `w` unchanged, and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := Y m ρ) (Z := fun _ => iprop(emp))
    (hX := start_intro m ρ) (hin := phi0_intro m ρ) (hout := phi1_exit m ρ)
    (QY := fun c s => s.mem ((c : Thread nD τ).loc main_arg1) = wv m ρ c ∧ ∀ sm : SemLoc sig, sm.isScoped .tc = false → s.sem ((c.tc : Thread nD τ), sm) = 0)
    (hY := fun c s' => by
      unfold Y
      iintro ⟨⟨Hw, Hu⟩, -, HSI⟩
      ihave H := (read_w m ρ c s') $$ [Hw HSI]
      · isplitl [Hw] <;> iassumption
      icases H with ⟨%hw, HSI⟩
      imod (Pipeline.unscopedSems0_read (X := unscopedSems0 c) (c := c) fupd_intro s') $$ [Hu HSI] with H
      · isplitl [Hu] <;> iassumption
      icases H with ⟨%hs, HSI⟩
      imodintro
      isplitr
      · ipureintro; exact ⟨hw, hs⟩
      · iexact HSI)
    (hQ := fun _ h hs => ⟨fun c => ⟨fun w => (h c).1 w, (h c).2.2.1⟩, sem_eq_zero hs fun c => (h c).2.2.2⟩)

/-- The input windows' arrays end as they began. -/
theorem finalA_in (c : Dev nD) : finalA m ρ c (0 : Fin 4) = m ((c : Thread nD τ).loc main_arg0) ∧ finalA m ρ c (1 : Fin 4) = m ((c : Thread nD τ).loc main_arg2)
    ∧ finalA m ρ c (2 : Fin 4) = m ((c : Thread nD τ).loc main_arg3) :=
  ⟨(dats (F := F) m ρ 0 c).arrAt_in (0 : Fin 4) rfl _, (dats (F := F) m ρ 0 c).arrAt_in (1 : Fin 4) rfl _, (dats (F := F) m ρ 0 c).arrAt_in (2 : Fin 4) rfl _⟩

/-- The arguments end as they began, on every device, and every semaphore counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (finalA_in m ρ c).1, (h.1 c).2, ((h.1 c).1 1).trans (finalA_in m ρ c).2.1,
    ((h.1 c).1 2).trans (finalA_in m ρ c).2.2⟩, h.2⟩) (run_main m ρ)

end Cert.KProof
end
-- ==== Proof.Values.lean ====
/-
# The result over the reals

Row `512 c + r` of `x` times column `n` of `w`, cut into eight blocks of 512 positions and each into two halves: device
`c`'s sixteen products are those sixteen pieces, the block of device `c + 8 - h` at step `h`, and their sum is the whole
contraction whatever the order.
-/
module

public import proofs.«01_k».proof.Proof.Exec
public import proofs.«01_k».proof.Proof.Gen.ReferenceIdeal
public import Idealize.ShloMosaic.Lib.Pointwise
public import Idealize.ShloMosaic.Lib.Layout
public import Idealize.ShloMosaic.Lib.Pipeline.ValueKit

@[expose] public section

set_option maxRecDepth 16384

noncomputable section

namespace Cert.KProof

open Cert.KernelIdeal Cert.KernelIdeal.Gen

open Idealize.ShloMosaic Idealize.ShloMosaic.TcCoe
open Idealize.SL.Sem
open Idealize.ShloMosaic.Pipeline (Dat Cfg Window)

/-! ## One step -/

theorem own_first (x : Vec Ideal S512x256 .f32) (w : Vec Ideal S1x256x8192 .f32) (r : Fin 512) (n : Fin 8192) :
    k0_pay2 (F := Ideal) x w (ix2 r n) = ∑ k : Fin 256, x (ix2 r k) * w (ix3 0 k n) := by
  pointwise [k0_pay2]

theorem own_second (x : Vec Ideal S512x256 .f32) (w : Vec Ideal S1x256x8192 .f32) (a : Vec Ideal S512x8192 .f32) (r : Fin 512) (n : Fin 8192) :
    k0_pay3 (F := Ideal) x w a (ix2 r n) = a (ix2 r n) + ∑ k : Fin 256, x (ix2 r k) * w (ix3 0 k n) := by
  pointwise [k0_pay3]

theorem landed_first (x : Vec Ideal S1x512x512 .fp8e4m3) (w : Vec Ideal S1x256x8192 .f32) (a : Vec Ideal S512x8192 .f32) (r : Fin 512) (n : Fin 8192) :
    k0_pay4 (F := Ideal) x w a (ix2 r n)
      = a (ix2 r n) + ∑ k : Fin 256, x (ix3 0 r ⟨0 + k.val, by omega⟩) * w (ix3 0 k n) := by
  pointwise [k0_pay4]

theorem landed_second (x : Vec Ideal S1x512x512 .fp8e4m3) (w : Vec Ideal S1x256x8192 .f32) (a : Vec Ideal S512x8192 .f32) (r : Fin 512) (n : Fin 8192) :
    k0_pay9 (F := Ideal) x w a (ix2 r n)
      = a (ix2 r n) + ∑ k : Fin 256, x (ix3 0 r ⟨256 + k.val, by omega⟩) * w (ix3 0 k n) := by
  pointwise [k0_pay9]

theorem scaled (a : Vec Ideal S512x8192 .f32) (s t : Elt Ideal .f32) (r : Fin 512) (n : Fin 8192) :
    k0_pay21 (F := Ideal) a s t (ix2 r n) = a (ix2 r n) * (s * t) := by
  pointwise [k0_pay21]

theorem pay6_eq (x : Vec Ideal S1x512x512 .fp8e4m3) (w : Vec Ideal S1x256x8192 .f32) (a : Vec Ideal S512x8192 .f32) :
    k0_pay6 (F := Ideal) (k0_pay5 x w) a = k0_pay9 x w a := rfl
theorem pay8_eq (x : Vec Ideal S1x512x512 .fp8e4m3) (w : Vec Ideal S1x256x8192 .f32) (a : Vec Ideal S512x8192 .f32) :
    k0_pay8 (F := Ideal) (k0_pay7 x) w a = k0_pay4 x w a := rfl
theorem pay12_eq (x : Vec Ideal S1x512x512 .fp8e4m3) (w : Vec Ideal S1x256x8192 .f32) (a : Vec Ideal S512x8192 .f32) :
    k0_pay12 (F := Ideal) (k0_pay11 x) w a = k0_pay9 x w a := rfl

theorem off3_val : ∀ (c : Dev nD) (a : Fin 2), k0_off3 c a = (![512 * c.val, 0] : Fin 2 → ℕ) a := by decide +kernel
theorem off4_val : ∀ (c : Dev nD) (a : Fin 2), k0_off4 c a = (![512 * c.val, 256] : Fin 2 → ℕ) a := by decide +kernel

/-! ## What each buffer holds -/

variable (m : (ℓ : Loc nD τ sig) → Buf (Elt Ideal) ℓ) (ρ : Dev nD → PrngReg)

/-- The window stages the whole block. -/
theorem xstg_apply (c : Dev nD) (i : S4096x512.Idx) : xstg (F := Ideal) m ρ c i = m ((c.tc : Thread nD τ).loc main_arg0) i := by
  show m ((c.tc : Thread nD τ).loc main_arg0) ((win0_0.blk (0 : Fin 1)).view.emb i) = _
  exact congrArg _ (funext fun a => Fin.ext (Window.rect_emb_val_of_index_zero win0_0 (0 : Fin 1) a (by revert a; decide +kernel) i))

theorem sx_apply (c : Dev nD) (i : S1.Idx) : sx (F := Ideal) m ρ c i = m ((c.tc : Thread nD τ).loc main_arg2) i := by
  show m ((c.tc : Thread nD τ).loc main_arg2) ((win0_1.blk (0 : Fin 1)).view.emb i) = _
  exact congrArg _ (funext fun a => Fin.ext (Window.rect_emb_val_of_index_zero win0_1 (0 : Fin 1) a (by revert a; decide +kernel) i))

theorem sw_apply (c : Dev nD) (i : S1.Idx) : sw (F := Ideal) m ρ c i = m ((c.tc : Thread nD τ).loc main_arg3) i := by
  show m ((c.tc : Thread nD τ).loc main_arg3) ((win0_2.blk (0 : Fin 1)).view.emb i) = _
  exact congrArg _ (funext fun a => Fin.ext (Window.rect_emb_val_of_index_zero win0_2 (0 : Fin 1) a (by revert a; decide +kernel) i))

/-- Over the reals the narrow format keeps every value. -/
theorem pay1_apply (x : Vec Ideal S4096x512 .f32) (i : S4096x512.Idx) : k0_pay1 (F := Ideal) x i = x i := by
  pointwise [k0_pay1]

/-- The shape of the whole `x`. -/
abbrev SX : Shape := ⟨2, ![4096, 4096]⟩
/-- The row of the whole arrays that row `r` of device `c`'s block is. -/
def oRow (c : Dev nD) (r : Fin 512) : Fin 4096 := ⟨512 * c.val + r.val, by have h1 := c.isLt; have h2 := r.isLt; have h3 : nD = 8 := rfl; omega⟩

/-- A product of the whole contraction: position `K` of row `512 c + r` of `x` and of column `n` of `w`. -/
def prodAt (X : SX.Idx → EReal) (W : S4096x8192.Idx → EReal) (c : Dev nD) (r : Fin 512) (n : Fin 8192) (K : Fin 4096) : EReal :=
  X (ix2 (oRow c r) K) * W (ix2 K n)

/-- The products of half `b` of the block of the device `h` places before `c`, added up. -/
def pieceAt (X : SX.Idx → EReal) (W : S4096x8192.Idx → EReal) (c : Dev nD) (r : Fin 512) (n : Fin 8192) (h : Fin 8) (b : Fin 2) : EReal :=
  ∑ k : Fin 256, prodAt X W c r n ⟨wRow c h b + k.val, wRow_lt c h b _ k.isLt⟩

section Whole

variable (X : SX.Idx → EReal) (W : S4096x8192.Idx → EReal)
variable (hX : ∀ (c : Dev nD) (p : Fin 4096) (q : Fin 512), m ((c.tc : Thread nD τ).loc main_arg0) (ix2 p q)
  = X (ix2 p (oRow c q)))
variable (hW : ∀ c : Dev nD, m ((c.tc : Thread nD τ).loc main_arg1) = W)

include hX in
/-- The staged block by the whole array's coordinates. -/
theorem xstg_whole (c : Dev nD) (i : S4096x512.Idx) (P K : Fin 4096) (hP : (i 0).val = P.val) (hK : 512 * c.val + (i 1).val = K.val) :
    xstg (F := Ideal) m ρ c i = X (ix2 P K) := by
  refine (xstg_apply m ρ c i).trans ((congrArg _ (eq_ix2 i)).trans ((hX c (i 0) (i 1)).trans (congrArg X ?_)))
  exact congrArg₂ ix2 (Fin.ext hP) (Fin.ext hK)

include hW in
theorem wch_whole (c : Dev nD) (h : Fin 8) (b : Fin 2) (k : Fin 256) (n : Fin 8192) :
    wch (F := Ideal) m ρ c h b (ix3 0 k n) = W (ix2 (⟨wRow c h b + k.val, wRow_lt c h b _ k.isLt⟩ : Fin 4096) n) := by
  show m ((c.tc : Thread nD τ).loc main_arg1) (ValueIdx.ix2 _ _) = _
  rw [hW]
  refine congrArg W (funext fun a => ?_)
  match a with
  | ⟨0, _⟩ => rfl
  | ⟨1, _⟩ => rfl

include hX in
theorem xch0_whole (c : Dev nD) (r : Fin 512) (k : Fin 256) (P K : Fin 4096) (hP : 512 * c.val + r.val = P.val) (hK : 512 * c.val + k.val = K.val) :
    xch0 (F := Ideal) m ρ c (ix2 r k) = X (ix2 P K) := by
  refine xstg_whole m ρ X hX c _ P K ?_ ?_
  · show k0_off3 c 0 + 1 * r.val = _
    rw [off3_val c 0]; simpa using hP
  · show 512 * c.val + (k0_off3 c 1 + 1 * k.val) = _
    rw [off3_val c 1]; simpa using hK

include hX in
theorem xch1_whole (c : Dev nD) (r : Fin 512) (k : Fin 256) (P K : Fin 4096) (hP : 512 * c.val + r.val = P.val)
    (hK : 512 * c.val + 256 + k.val = K.val) : xch1 (F := Ideal) m ρ c (ix2 r k) = X (ix2 P K) := by
  refine xstg_whole m ρ X hX c _ P K ?_ ?_
  · show k0_off4 c 0 + 1 * r.val = _
    rw [off4_val c 0]; simpa using hP
  · show 512 * c.val + (k0_off4 c 1 + 1 * k.val) = _
    rw [off4_val c 1]; simpa [add_assoc] using hK

theorem e8_apply (c : Dev nD) (i : S4096x512.Idx) : (e8 (F := Ideal) m ρ c i : EReal) = xstg (F := Ideal) m ρ c i := by
  unfold e8; exact pay1_apply _ i

theorem cch_apply (c : Dev nD) (j : Fin 7) (r k : Fin 512) :
    (cch (F := Ideal) m ρ c j (ix3 0 r k) : EReal) = xstg (F := Ideal) m ρ (mi c j) (ix2 (oRow c r) k) := by
  refine Eq.trans ?_ (e8_apply m ρ (mi c j) _)
  unfold cch
  refine congrArg (e8 (F := Ideal) m ρ (mi c j)) (funext fun a => ?_)
  match a with
  | ⟨0, _⟩ => rfl
  | ⟨1, _⟩ => rfl

include hX in
theorem cch_whole (c : Dev nD) (j : Fin 7) (r k : Fin 512) (K : Fin 4096)
    (hK : 512 * (mi c j).val + k.val = K.val) : (cch (F := Ideal) m ρ c j (ix3 0 r k) : EReal) = X (ix2 (oRow c r) K) :=
  (cch_apply m ρ c j r k).trans (xstg_whole m ρ X hX (mi c j) (ix2 (oRow c r) k) (oRow c r) K rfl hK)

/-! ## The steps as pieces -/

include hX hW in
theorem step_own_first (c : Dev nD) (r : Fin 512) (n : Fin 8192) :
    k0_pay2 (F := Ideal) (xch0 m ρ c) (wch m ρ c 0 0) (ix2 r n) = pieceAt X W c r n 0 0 := by
  rw [own_first]
  refine Finset.sum_congr rfl fun k _ => ?_
  have h8 : nD = 8 := rfl
  rw [wch_whole m ρ W hW, xch0_whole m ρ X hX c r k (oRow c r) ⟨wRow c 0 0 + k.val, wRow_lt c 0 0 _ k.isLt⟩ rfl (by
    have := c.isLt; simp only [wRow, Fin.val_zero]; omega)]
  rfl

include hX hW in
theorem step_own_second (c : Dev nD) (a : Vec Ideal S512x8192 .f32) (r : Fin 512) (n : Fin 8192) :
    k0_pay3 (F := Ideal) (xch1 m ρ c) (wch m ρ c 0 1) a (ix2 r n) = a (ix2 r n) + pieceAt X W c r n 0 1 := by
  rw [own_second]
  refine congrArg _ (Finset.sum_congr rfl fun k _ => ?_)
  have h8 : nD = 8 := rfl
  rw [wch_whole m ρ W hW, xch1_whole m ρ X hX c r k (oRow c r) ⟨wRow c 0 1 + k.val, wRow_lt c 0 1 _ k.isLt⟩ rfl (by
    have := c.isLt; simp only [wRow, Fin.val_zero, Fin.val_one]; omega)]
  rfl

include hX hW in
theorem step_first (c : Dev nD) (j : Fin 7) (a : Vec Ideal S512x8192 .f32) (r : Fin 512) (n : Fin 8192) :
    k0_pay4 (F := Ideal) (cch m ρ c j) (wch m ρ c j.succ 0) a (ix2 r n) = a (ix2 r n) + pieceAt X W c r n j.succ 0 := by
  rw [landed_first]
  refine congrArg _ (Finset.sum_congr rfl fun k _ => ?_)
  rw [wch_whole m ρ W hW, cch_whole m ρ X hX c j r _ ⟨wRow c j.succ 0 + k.val, wRow_lt c j.succ 0 _ k.isLt⟩ (by
    simp only [wRow, mi, Fin.val_succ, Fin.val_zero]; omega)]
  rfl

include hX hW in
theorem step_second (c : Dev nD) (j : Fin 7) (a : Vec Ideal S512x8192 .f32) (r : Fin 512) (n : Fin 8192) :
    k0_pay9 (F := Ideal) (cch m ρ c j) (wch m ρ c j.succ 1) a (ix2 r n) = a (ix2 r n) + pieceAt X W c r n j.succ 1 := by
  rw [landed_second]
  refine congrArg _ (Finset.sum_congr rfl fun k _ => ?_)
  rw [wch_whole m ρ W hW, cch_whole m ρ X hX c j r _ ⟨wRow c j.succ 1 + k.val, wRow_lt c j.succ 1 _ k.isLt⟩ (by
    simp only [wRow, mi, Fin.val_succ, Fin.val_one]; omega)]
  rfl

/-! ## The sixteen pieces are the whole contraction -/

/-- The device whose block step `h` takes, and back. -/
def srcPerm (c : Dev nD) : Fin 8 ≃ Fin 8 where
  toFun h := ⟨(c.val + (8 - h.val)) % 8, Nat.mod_lt _ (by decide)⟩
  invFun h := ⟨(c.val + (8 - h.val)) % 8, Nat.mod_lt _ (by decide)⟩
  left_inv h := by apply Fin.ext; have := h.isLt; have h2 : c.val < 8 := c.isLt; show (c.val + (8 - (c.val + (8 - h.val)) % 8)) % 8 = h.val; omega
  right_inv h := by apply Fin.ext; have := h.isLt; have h2 : c.val < 8 := c.isLt; show (c.val + (8 - (c.val + (8 - h.val)) % 8)) % 8 = h.val; omega

theorem whole_eq (c : Dev nD) (r : Fin 512) (n : Fin 8192) :
    ∑ K : Fin 4096, prodAt X W c r n K = ∑ h : Fin 8, ∑ b : Fin 2, pieceAt X W c r n h b := by
  rw [Fin.sum_univ_tiles 8 512 (by decide), ← Equiv.sum_comp (srcPerm c)]
  refine Finset.sum_congr rfl fun h _ => ?_
  rw [Fin.sum_univ_tiles 2 256 (by decide)]
  refine Finset.sum_congr rfl fun b _ => Finset.sum_congr rfl fun k _ => congrArg _ (Fin.ext ?_)
  show (c.val + (8 - h.val)) % 8 * 512 + (b.val * 256 + k.val) = 512 * ((c.val + (8 - h.val)) % 8) + 256 * b.val + k.val
  omega

include hX hW in
/-- The accumulated result, at an element. -/
theorem accAt_apply (c : Dev nD) (r : Fin 512) (n : Fin 8192) :
    accAt (F := Ideal) m ρ c (ix2 r n) = ∑ K : Fin 4096, prodAt X W c r n K := by
  rw [whole_eq X W c r n]
  simp only [Fin.sum_univ_eight, Fin.sum_univ_two, ← add_assoc]
  unfold accAt
  refine (step_second m ρ X W hX hW c 6 _ r n).trans (congrArg (· + _) ?_)
  refine (step_first m ρ X W hX hW c 6 _ r n).trans (congrArg (· + _) ?_)
  refine (step_second m ρ X W hX hW c 5 _ r n).trans (congrArg (· + _) ?_)
  refine (step_first m ρ X W hX hW c 5 _ r n).trans (congrArg (· + _) ?_)
  refine (step_second m ρ X W hX hW c 4 _ r n).trans (congrArg (· + _) ?_)
  refine (step_first m ρ X W hX hW c 4 _ r n).trans (congrArg (· + _) ?_)
  refine (step_second m ρ X W hX hW c 3 _ r n).trans (congrArg (· + _) ?_)
  refine (step_first m ρ X W hX hW c 3 _ r n).trans (congrArg (· + _) ?_)
  refine (step_second m ρ X W hX hW c 2 _ r n).trans (congrArg (· + _) ?_)
  refine (step_first m ρ X W hX hW c 2 _ r n).trans (congrArg (· + _) ?_)
  refine (step_second m ρ X W hX hW c 1 _ r n).trans (congrArg (· + _) ?_)
  refine (step_first m ρ X W hX hW c 1 _ r n).trans (congrArg (· + _) ?_)
  refine (step_second m ρ X W hX hW c 0 _ r n).trans (congrArg (· + _) ?_)
  refine (step_first m ρ X W hX hW c 0 _ r n).trans (congrArg (· + _) ?_)
  exact (step_own_second m ρ X W hX hW c _ r n).trans (congrArg (· + _) (step_own_first m ρ X W hX hW c r n))

end Whole

/-! ## The result array -/

/-- The result array ends holding what the body left: the one point writes the whole array back. -/
theorem finalA_out (c : Dev nD) : finalA (F := Ideal) m ρ c (3 : Fin 4) = outAt m ρ c := by
  have hw : Window.WholeAt (G := grid0) win0_3 (0 : Fin 1) := ⟨rfl, fun t _ => Subsingleton.elim (α := Fin 1) t 0, by decide +kernel⟩
  refine (dats (F := Ideal) m ρ 0 c).arrAt_eq_of_after_last (3 : Fin 4) (0 : Fin 1) hw _ fun j => ?_
  rfl

/-- Device `c`'s result at an element: the whole contraction times the product of the scales. -/
theorem outAt_apply (X : SX.Idx → EReal) (W : S4096x8192.Idx → EReal) (s t : S1.Idx → EReal)
    (hX : ∀ (c : Dev nD) (p : Fin 4096) (q : Fin 512), m ((c.tc : Thread nD τ).loc main_arg0) (ix2 p q) = X (ix2 p (oRow c q)))
    (hW : ∀ c : Dev nD, m ((c.tc : Thread nD τ).loc main_arg1) = W)
    (hs : ∀ c : Dev nD, m ((c.tc : Thread nD τ).loc main_arg2) = s) (ht : ∀ c : Dev nD, m ((c.tc : Thread nD τ).loc main_arg3) = t)
    (c : Dev nD) (r : Fin 512) (n : Fin 8192) :
    (outAt (F := Ideal) m ρ c (ix2 r n) : EReal)
      = (∑ K : Fin 4096, X (ix2 (oRow c r) K) * W (ix2 K n)) * (s (ValueIdx.ix1 (0 : Fin 1)) * t (ValueIdx.ix1 (0 : Fin 1))) := by
  unfold outAt
  rw [scaled, accAt_apply m ρ X W hX hW]
  unfold word1
  rw [sx_apply, sw_apply, hs, ht]
  rfl

/-! ## The reference -/

/-- The reference's result: the contraction, times the product of the scales spread over the whole shape. -/
abbrev refOut (X : FVec Ideal Cert.ReferenceIdeal.S4096x4096 .f32) (W : FVec Ideal Cert.ReferenceIdeal.S4096x8192 .f32)
    (s t : FVec Ideal Cert.ReferenceIdeal.S1 .f32) : FVec Ideal Cert.ReferenceIdeal.S4096x8192 .f32 :=
  mulf (Host.dotGeneral Cert.ReferenceIdeal.dot_S4096x4096_S4096x8192_S4096x8192_1_0_0_1_n_n none X W)
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf s t)))

theorem refOut_apply (X : FVec Ideal Cert.ReferenceIdeal.S4096x4096 .f32) (W : FVec Ideal Cert.ReferenceIdeal.S4096x8192 .f32)
    (s t : FVec Ideal Cert.ReferenceIdeal.S1 .f32) (p : Fin 4096) (n : Fin 8192) :
    (refOut X W s t (ix2 p n) : EReal) = (∑ K : Fin 4096, X (ix2 p K) * W (ix2 K n)) * (s (ix1 0) * t (ix1 0)) := by
  pointwise [refOut]

/-- Device `c`'s result is row block `c` of the reference's. -/
theorem outAt_block (X : FVec Ideal Cert.ReferenceIdeal.S4096x4096 .f32) (W : FVec Ideal Cert.ReferenceIdeal.S4096x8192 .f32)
    (s t : FVec Ideal Cert.ReferenceIdeal.S1 .f32)
    (hX : ∀ c : Dev nD, m ((c.tc : Thread nD τ).loc main_arg0) = Layout.block ⟨2, ![4096, 512]⟩ ⟨2, ![4096, 4096]⟩ 1 8 c X)
    (hW : ∀ c : Dev nD, m ((c.tc : Thread nD τ).loc main_arg1) = W)
    (hs : ∀ c : Dev nD, m ((c.tc : Thread nD τ).loc main_arg2) = s) (ht : ∀ c : Dev nD, m ((c.tc : Thread nD τ).loc main_arg3) = t)
    (c : Dev nD) : outAt (F := Ideal) m ρ c = Layout.block ⟨2, ![512, 8192]⟩ ⟨2, ![4096, 8192]⟩ 0 8 c (refOut X W s t) := by
  have hX' : ∀ (c : Dev nD) (p : Fin 4096) (q : Fin 512), m ((c.tc : Thread nD τ).loc main_arg0) (ix2 p q) = X (ix2 p (oRow c q)) := by
    intro c p q
    rw [hX c]
    refine congrArg X (funext fun a => Fin.ext ?_)
    match a with
    | ⟨0, _⟩ => rfl
    | ⟨1, _⟩ => show c.val * 512 + q.val = 512 * c.val + q.val; omega
  funext i
  refine (congrArg _ (eq_ix2 i)).trans ((outAt_apply m ρ X W s t hX' hW hs ht c (i 0) (i 1)).trans ?_)
  refine (refOut_apply X W s t (oRow c (i 0)) (i 1)).symm.trans ?_
  refine congrArg (refOut X W s t) (funext fun a => Fin.ext ?_)
  match a with
  | ⟨0, _⟩ => show 512 * c.val + (i 0).val = c.val * 512 + (i 0).val; omega
  | ⟨1, _⟩ => rfl

end Cert.KProof
end
-- ==== Proof.lean ====
/-
The claims, from the run of the eight devices (Proof/Exec.lean), the result over the reals (Proof/Values.lean) and the
reference's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Exec
public import proofs.«01_k».proof.Proof.Values
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.KernelIdeal

/-- The two modules' bodies are one function: they were printed from one text. -/
theorem body_eq : @Cert.Kernel.cc0_body Bits _ Cert.Kernel.Gen.facts = @Cert.KernelIdeal.cc0_body Bits _ Cert.KernelIdeal.Gen.facts := rfl

/-- So the body labels run the same code, label by label. -/
theorem bodies_eq : @Cert.Kernel.defs₀ Bits _ Cert.Kernel.Gen.facts = @Cert.KernelIdeal.defs₀ Bits _ Cert.KernelIdeal.Gen.facts := by
  refine congrArg (Defs.onTc (nD := Cert.Kernel.nD) (τ := Cert.Kernel.τ) (sig := Cert.Kernel.sig) (Val := Elt Bits)
    (Λ := Cert.Kernel.Λ₀)) (funext fun ℓ => funext fun a => ?_)
  match ℓ, a with
  | 0, (t, s) => rfl
  | ⟨n + 1, h⟩, _ => exact absurd h (by omega)

/-- And the pipelines around them are the same. -/
theorem defs_eq : @Cert.Kernel.defs Bits _ Cert.Kernel.Gen.facts = @Cert.KernelIdeal.defs Bits _ Cert.KernelIdeal.Gen.facts :=
  congrArg (Pipeline.defs (Cert.Kernel.pcfgs (F := Bits))) bodies_eq

/-- The kernel's run: it ends, its arguments as they were and every semaphore at zero. The text is the same at every
    kind of float, so the run proved at any of them serves here at the bit patterns. -/
theorem frame_kernel : Cert.quiescent_Kernel (hKernel := Cert.Kernel.Gen.facts) := fun m ρ _ => by
  rw [defs_eq]
  exact Cert.KProof.run_args (F := Bits) m ρ

/-- The same over the reals. -/
theorem frame_kernelIdeal : Cert.quiescent_KernelIdeal := fun m ρ _ => Cert.KProof.run_args (F := Ideal) m ρ

/-- The reference's run; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals each device ends with its row block of the reference's result. -/
theorem algebraic : Cert.algebraic_KernelIdeal_ReferenceIdeal := by
  intro m ρ m' ρ' _ hagree
  refine ⟨Cert.KProof.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run defs _ _).mono (fun r h c => ⟨?_, ?_, (h.1 c).2, ?_, ?_⟩) (Cert.KProof.run_main (F := Ideal) m ρ)
    · exact ((h.1 c).1 (3 : Fin 4)).trans ((Cert.KProof.finalA_out m ρ c).trans (Cert.KProof.outAt_block m ρ _ _ _ _
        (fun c => (hagree c).1) (fun c => (hagree c).2.1) (fun c => (hagree c).2.2.1) (fun c => (hagree c).2.2.2) c))
    · exact ((h.1 c).1 (0 : Fin 4)).trans (Cert.KProof.finalA_in m ρ c).1
    · exact ((h.1 c).1 (1 : Fin 4)).trans (Cert.KProof.finalA_in m ρ c).2.1
    · exact ((h.1 c).1 (2 : Fin 4)).trans (Cert.KProof.finalA_in m ρ c).2.2
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
